-- ==== Defs.lean ====
def Pre_Kernel [hPre_swap_Kernel : Cert.Pre_swap_Kernel.Facts] (m : (ℓ : Loc Cert.Kernel.nD Cert.Kernel.τ Cert.Kernel.sig) → Buf (Elt Bits) ℓ) : Prop :=
  ∀ c : Dev Cert.Kernel.nD,
    (Cert.Pre_swap_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_swap_Kernel : Cert.Pre_swap_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_swap_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_swap_ReferenceIdeal [hPre_swap_ReferenceIdeal : Cert.Pre_swap_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_swap_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_swap_Kernel : Cert.Pre_swap_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_swap_Kernel : Cert.Pre_swap_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_swap_ReferenceIdeal [hReferenceIdeal : Cert.ReferenceIdeal.Facts] [hPre_swap_ReferenceIdeal : Cert.Pre_swap_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_swap_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_swap_Kernel : Cert.Pre_swap_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 1024, 1024]⟩ ⟨3, ![2, 1024, 1024]⟩ (Layout.meshBlock [2, 2, 2] ![[0], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 1024, 1024]⟩ ⟨3, ![2, 1024, 1024]⟩ (Layout.meshBlock [2, 2, 2] ![[0], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_swap_Kernel : Cert.Pre_swap_Kernel.Facts) (hPre_swap_ReferenceIdeal : Cert.Pre_swap_ReferenceIdeal.Facts),
    quiescent_Kernel (hKernel := hKernel) (hPre_swap_Kernel := hPre_swap_Kernel)
    ∧ quiescent_KernelIdeal (hKernelIdeal := hKernelIdeal) (hPre_swap_Kernel := hPre_swap_Kernel)
    ∧ quiescent_ReferenceIdeal (hReferenceIdeal := hReferenceIdeal)
    ∧ quiescent_ReferenceIdeal_pre_swap_ReferenceIdeal (hReferenceIdeal := hReferenceIdeal) (hPre_swap_ReferenceIdeal := hPre_swap_ReferenceIdeal)
    ∧ preserves_Kernel_KernelIdeal
    ∧ algebraic_KernelIdeal_ReferenceIdeal (hKernelIdeal := hKernelIdeal) (hReferenceIdeal := hReferenceIdeal) (hPre_swap_Kernel := hPre_swap_Kernel)
-- ==== Pre_swap_Kernel.lean ====
abbrev S1x1024x1024 : Shape := ⟨3, ![1, 1024, 1024]⟩
abbrev S2 : Shape := ⟨1, ![2]⟩

class Facts : Prop where

variable [Facts]

noncomputable abbrev lit0 : Fin 2 → BitVec 32 := fun
  | 0 => 1#32 | 1 => 0#32
  | _ => 0#32

def fn {F : FTy → Type} [FloatOps F] (main_arg0 : FVec F S1x1024x1024 .bf16) (main_arg1 : IVec S2 32) : IVec S2 1 :=
  let main_c : IVec S2 32 := fun i => lit0 (S2.rowMajor i)
  let main_v0 : IVec S2 1 := cmpi .eq main_arg1 main_c
  main_v0
-- ==== Pre_swap_ReferenceIdeal.lean ====
abbrev S2x1024x1024 : Shape := ⟨3, ![2, 1024, 1024]⟩
abbrev S2 : Shape := ⟨1, ![2]⟩

class Facts : Prop where

variable [Facts]

noncomputable abbrev lit0 : Fin 2 → BitVec 32 := fun
  | 0 => 1#32 | 1 => 0#32
  | _ => 0#32

def fn {F : FTy → Type} [FloatOps F] (main_arg0 : FVec F S2x1024x1024 .bf16) (main_arg1 : IVec S2 32) : IVec S2 1 :=
  let main_c : IVec S2 32 := fun i => lit0 (S2.rowMajor i)
  let main_v0 : IVec S2 1 := cmpi .eq main_arg1 main_c
  main_v0
-- ==== Kernel.lean ====
abbrev S1x1024x1024 : Shape := ⟨3, ![1, 1024, 1024]⟩
abbrev S2 : Shape := ⟨1, ![2]⟩
abbrev S2x32x1024 : Shape := ⟨3, ![2, 32, 1024]⟩
abbrev S384x1024 : Shape := ⟨2, ![384, 1024]⟩
abbrev S12 : Shape := ⟨1, ![12]⟩
abbrev S10 : Shape := ⟨1, ![10]⟩
abbrev S1 : Shape := ⟨1, ![1]⟩
abbrev S_ : Shape := ⟨0, ![]⟩
abbrev S1x32x1024 : Shape := ⟨3, ![1, 32, 1024]⟩
abbrev S32x1024 : Shape := ⟨2, ![32, 1024]⟩

abbrev nBuf : Space → Nat
  | .hbm => 3
  | .vmem => 3
  | .smem => 1
  | _ => 0

abbrev bufTy : (tb : Table) → Fin (tcTables nBuf tb) → BufTy
  | .hbm, ⟨0, _⟩ => ⟨S1x1024x1024, .bf16⟩
  | .hbm, ⟨1, _⟩ => ⟨S2, .i32⟩
  | .hbm, ⟨2, _⟩ => ⟨S1x1024x1024, .bf16⟩
  | .local _ .vmem, ⟨0, _⟩ => ⟨S1x1024x1024, .bf16⟩
  | .local _ .vmem, ⟨1, _⟩ => ⟨S2x32x1024, .bf16⟩
  | .local _ .vmem, ⟨2, _⟩ => ⟨S384x1024, .bf16⟩
  | .local _ .smem, ⟨0, _⟩ => ⟨S2, .i32⟩
  | _, _ => ⟨S1x1024x1024, .bf16⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | _, _ => false

abbrev semScoped : Fin 1 → Bool
  | ⟨0, _⟩ => false
  | _ => false

abbrev dmaSemScoped : Fin 68 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | _ => false

abbrev sig : RefSig :=
  (ofTc nBuf bufTy 1 68 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg1_0 : Ref sig .tc := ⟨.vmem, 0, rfl⟩
abbrev cc0_scratch0 : Ref sig .tc := ⟨.vmem, 1, rfl⟩
abbrev cc0_scratch1 : Ref sig .tc := ⟨.vmem, 2, rfl⟩
abbrev cc0_stg0_0 : Ref sig .tc := ⟨.smem, 0, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_off1 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : Index := Scalar.indexCast v2
  ![v9.toNat]
def k0_dev1 (d0 : Dev nD) (v10 : BitVec 32) : Nat :=
  let c0_i32 : BitVec 32 := 0#32
  let c4_i32_14 : BitVec 32 := 4#32
  let v26 : BitVec 32 := Scalar.muli v10 c4_i32_14
  let v27 : BitVec 32 := Scalar.addi c0_i32 v26
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_15 : BitVec 32 := 2#32
  let v28 : BitVec 32 := Scalar.muli v5 c2_i32_15
  let v29 : BitVec 32 := Scalar.addi v27 v28
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_16 : BitVec 32 := 1#32
  let v30 : BitVec 32 := Scalar.muli v8 c1_i32_16
  let v31 : BitVec 32 := Scalar.addi v29 v30
  v31.toNat

def k0_dev2 (d0 : Dev nD) : Nat :=
  let c0_i32_19 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_18 : BitVec 32 := 4#32
  let v32 : BitVec 32 := Scalar.muli v2 c4_i32_18
  let v33 : BitVec 32 := Scalar.addi c0_i32_19 v32
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_3 v5
  let c2_i32_20 : BitVec 32 := 2#32
  let v34 : BitVec 32 := Scalar.muli v11 c2_i32_20
  let v35 : BitVec 32 := Scalar.addi v33 v34
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_21 : BitVec 32 := 1#32
  let v36 : BitVec 32 := Scalar.muli v8 c1_i32_21
  let v37 : BitVec 32 := Scalar.addi v35 v36
  v37.toNat
def k0_dev3 (d0 : Dev nD) : Nat :=
  let c0_i32_24 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_23 : BitVec 32 := 4#32
  let v38 : BitVec 32 := Scalar.muli v2 c4_i32_23
  let v39 : BitVec 32 := Scalar.addi c0_i32_24 v38
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_25 : BitVec 32 := 2#32
  let v40 : BitVec 32 := Scalar.muli v5 c2_i32_25
  let v41 : BitVec 32 := Scalar.addi v39 v40
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.subi c1_i32_4 v8
  let c1_i32_26 : BitVec 32 := 1#32
  let v42 : BitVec 32 := Scalar.muli v12 c1_i32_26
  let v43 : BitVec 32 := Scalar.addi v41 v42
  v43.toNat
def k0_off2 (d0 : Dev nD) (c128_i32 : BitVec 32) : Fin 3 → Nat :=
  let c0_i32_27 : BitVec 32 := 0#32
  let c2_i32_5 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.muli c2_i32_5 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v14 : BitVec 32 := Scalar.addi v13 v8
  let c256_i32 : BitVec 32 := 256#32
  let v44 : BitVec 32 := Scalar.muli v14 c256_i32
  let v45 : BitVec 32 := Scalar.addi v44 c128_i32
  let c0_i32_32 : BitVec 32 := 0#32
  ![0, v45.toNat, 0]
def k0_dev4 (d0 : Dev nD) (v10 : BitVec 32) : Nat :=
  let c0_i32_56 : BitVec 32 := 0#32
  let c4_i32_55 : BitVec 32 := 4#32
  let v73 : BitVec 32 := Scalar.muli v10 c4_i32_55
  let v74 : BitVec 32 := Scalar.addi c0_i32_56 v73
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_57 : BitVec 32 := 2#32
  let v75 : BitVec 32 := Scalar.muli v5 c2_i32_57
  let v76 : BitVec 32 := Scalar.addi v74 v75
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_58 : BitVec 32 := 1#32
  let v77 : BitVec 32 := Scalar.muli v8 c1_i32_58
  let v78 : BitVec 32 := Scalar.addi v76 v77
  v78.toNat
def k0_dev5 (d0 : Dev nD) (v10 : BitVec 32) : Nat :=
  let c0_i32_84 : BitVec 32 := 0#32
  let c4_i32_83 : BitVec 32 := 4#32
  let v107 : BitVec 32 := Scalar.muli v10 c4_i32_83
  let v108 : BitVec 32 := Scalar.addi c0_i32_84 v107
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_85 : BitVec 32 := 2#32
  let v109 : BitVec 32 := Scalar.muli v5 c2_i32_85
  let v110 : BitVec 32 := Scalar.addi v108 v109
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_86 : BitVec 32 := 1#32
  let v111 : BitVec 32 := Scalar.muli v8 c1_i32_86
  let v112 : BitVec 32 := Scalar.addi v110 v111
  v112.toNat
def k0_dev6 (d0 : Dev nD) (v10 : BitVec 32) : Nat :=
  let c0_i32_112 : BitVec 32 := 0#32
  let c4_i32_111 : BitVec 32 := 4#32
  let v141 : BitVec 32 := Scalar.muli v10 c4_i32_111
  let v142 : BitVec 32 := Scalar.addi c0_i32_112 v141
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_113 : BitVec 32 := 2#32
  let v143 : BitVec 32 := Scalar.muli v5 c2_i32_113
  let v144 : BitVec 32 := Scalar.addi v142 v143
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_114 : BitVec 32 := 1#32
  let v145 : BitVec 32 := Scalar.muli v8 c1_i32_114
  let v146 : BitVec 32 := Scalar.addi v144 v145
  v146.toNat
def k0_dev7 (d0 : Dev nD) (v10 : BitVec 32) : Nat :=
  let c0_i32_141 : BitVec 32 := 0#32
  let c4_i32_140 : BitVec 32 := 4#32
  let v175 : BitVec 32 := Scalar.muli v10 c4_i32_140
  let v176 : BitVec 32 := Scalar.addi c0_i32_141 v175
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_142 : BitVec 32 := 2#32
  let v177 : BitVec 32 := Scalar.muli v5 c2_i32_142
  let v178 : BitVec 32 := Scalar.addi v176 v177
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_143 : BitVec 32 := 1#32
  let v179 : BitVec 32 := Scalar.muli v8 c1_i32_143
  let v180 : BitVec 32 := Scalar.addi v178 v179
  v180.toNat
def k0_dev8 (d0 : Dev nD) (v10 : BitVec 32) : Nat :=
  let c0_i32_170 : BitVec 32 := 0#32
  let c4_i32_169 : BitVec 32 := 4#32
  let v209 : BitVec 32 := Scalar.muli v10 c4_i32_169
  let v210 : BitVec 32 := Scalar.addi c0_i32_170 v209
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_171 : BitVec 32 := 2#32
  let v211 : BitVec 32 := Scalar.muli v5 c2_i32_171
  let v212 : BitVec 32 := Scalar.addi v210 v211
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_172 : BitVec 32 := 1#32
  let v213 : BitVec 32 := Scalar.muli v8 c1_i32_172
  let v214 : BitVec 32 := Scalar.addi v212 v213
  v214.toNat
def k0_dev9 (d0 : Dev nD) (v10 : BitVec 32) : Nat :=
  let c0_i32_199 : BitVec 32 := 0#32
  let c4_i32_198 : BitVec 32 := 4#32
  let v243 : BitVec 32 := Scalar.muli v10 c4_i32_198
  let v244 : BitVec 32 := Scalar.addi c0_i32_199 v243
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_200 : BitVec 32 := 2#32
  let v245 : BitVec 32 := Scalar.muli v5 c2_i32_200
  let v246 : BitVec 32 := Scalar.addi v244 v245
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_201 : BitVec 32 := 1#32
  let v247 : BitVec 32 := Scalar.muli v8 c1_i32_201
  let v248 : BitVec 32 := Scalar.addi v246 v247
  v248.toNat
def k0_dev10 (d0 : Dev nD) (v10 : BitVec 32) : Nat :=
  let c0_i32_228 : BitVec 32 := 0#32
  let c4_i32_227 : BitVec 32 := 4#32
  let v277 : BitVec 32 := Scalar.muli v10 c4_i32_227
  let v278 : BitVec 32 := Scalar.addi c0_i32_228 v277
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_229 : BitVec 32 := 2#32
  let v279 : BitVec 32 := Scalar.muli v5 c2_i32_229
  let v280 : BitVec 32 := Scalar.addi v278 v279
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_230 : BitVec 32 := 1#32
  let v281 : BitVec 32 := Scalar.muli v8 c1_i32_230
  let v282 : BitVec 32 := Scalar.addi v280 v281
  v282.toNat
def k0_off3 (d0 : Dev nD) (c0_i32_235 : BitVec 32) : Fin 3 → Nat :=
  let c0_i32_236 : BitVec 32 := 0#32
  let c2_i32_7 : BitVec 32 := 2#32
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.subi c1_i32_6 v5
  let v16 : BitVec 32 := Scalar.muli c2_i32_7 v15
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.subi c1_i32_8 v8
  let v18 : BitVec 32 := Scalar.addi v16 v17
  let c256_i32_234 : BitVec 32 := 256#32
  let v290 : BitVec 32 := Scalar.muli v18 c256_i32_234
  let v291 : BitVec 32 := Scalar.addi v290 c0_i32_235
  let c0_i32_241 : BitVec 32 := 0#32
  ![0, v291.toNat, 0]
def k0_dev11 (d0 : Dev nD) (v10 : BitVec 32) : Nat :=
  let c0_i32_257 : BitVec 32 := 0#32
  let c4_i32_256 : BitVec 32 := 4#32
  let v311 : BitVec 32 := Scalar.muli v10 c4_i32_256
  let v312 : BitVec 32 := Scalar.addi c0_i32_257 v311
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_258 : BitVec 32 := 2#32
  let v313 : BitVec 32 := Scalar.muli v5 c2_i32_258
  let v314 : BitVec 32 := Scalar.addi v312 v313
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_259 : BitVec 32 := 1#32
  let v315 : BitVec 32 := Scalar.muli v8 c1_i32_259
  let v316 : BitVec 32 := Scalar.addi v314 v315
  v316.toNat
def k0_dev12 (d0 : Dev nD) (v10 : BitVec 32) : Nat :=
  let c0_i32_286 : BitVec 32 := 0#32
  let c4_i32_285 : BitVec 32 := 4#32
  let v345 : BitVec 32 := Scalar.muli v10 c4_i32_285
  let v346 : BitVec 32 := Scalar.addi c0_i32_286 v345
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_287 : BitVec 32 := 2#32
  let v347 : BitVec 32 := Scalar.muli v5 c2_i32_287
  let v348 : BitVec 32 := Scalar.addi v346 v347
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_288 : BitVec 32 := 1#32
  let v349 : BitVec 32 := Scalar.muli v8 c1_i32_288
  let v350 : BitVec 32 := Scalar.addi v348 v349
  v350.toNat
def k0_dev13 (d0 : Dev nD) (v10 : BitVec 32) : Nat :=
  let c0_i32_315 : BitVec 32 := 0#32
  let c4_i32_314 : BitVec 32 := 4#32
  let v379 : BitVec 32 := Scalar.muli v10 c4_i32_314
  let v380 : BitVec 32 := Scalar.addi c0_i32_315 v379
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_316 : BitVec 32 := 2#32
  let v381 : BitVec 32 := Scalar.muli v5 c2_i32_316
  let v382 : BitVec 32 := Scalar.addi v380 v381
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_317 : BitVec 32 := 1#32
  let v383 : BitVec 32 := Scalar.muli v8 c1_i32_317
  let v384 : BitVec 32 := Scalar.addi v382 v383
  v384.toNat
def k0_dev14 (d0 : Dev nD) (v10 : BitVec 32) : Nat :=
  let c0_i32_343 : BitVec 32 := 0#32
  let c4_i32_342 : BitVec 32 := 4#32
  let v413 : BitVec 32 := Scalar.muli v10 c4_i32_342
  let v414 : BitVec 32 := Scalar.addi c0_i32_343 v413
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_344 : BitVec 32 := 2#32
  let v415 : BitVec 32 := Scalar.muli v5 c2_i32_344
  let v416 : BitVec 32 := Scalar.addi v414 v415
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_345 : BitVec 32 := 1#32
  let v417 : BitVec 32 := Scalar.muli v8 c1_i32_345
  let v418 : BitVec 32 := Scalar.addi v416 v417
  v418.toNat
def k0_dev15 (d0 : Dev nD) (v10 : BitVec 32) : Nat :=
  let c0_i32_363 : BitVec 32 := 0#32
  let c4_i32_362 : BitVec 32 := 4#32
  let v439 : BitVec 32 := Scalar.muli v10 c4_i32_362
  let v440 : BitVec 32 := Scalar.addi c0_i32_363 v439
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_364 : BitVec 32 := 2#32
  let v441 : BitVec 32 := Scalar.muli v5 c2_i32_364
  let v442 : BitVec 32 := Scalar.addi v440 v441
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_365 : BitVec 32 := 1#32
  let v443 : BitVec 32 := Scalar.muli v8 c1_i32_365
  let v444 : BitVec 32 := Scalar.addi v442 v443
  v444.toNat

def k0_chk1 (d0 : Dev nD) (v10 : BitVec 32) : Prop :=
  ((k0_dev1 d0 v10) < nD) ∧
  ((k0_dev4 d0 v10) < nD) ∧
  ((k0_dev5 d0 v10) < nD) ∧
  ((k0_dev6 d0 v10) < nD) ∧
  ((k0_dev7 d0 v10) < nD) ∧
  ((k0_dev8 d0 v10) < nD) ∧
  ((k0_dev9 d0 v10) < nD) ∧
  ((k0_dev10 d0 v10) < nD) ∧
  ((k0_dev11 d0 v10) < nD) ∧
  ((k0_dev12 d0 v10) < nD) ∧
  ((k0_dev13 d0 v10) < nD) ∧
  ((k0_dev14 d0 v10) < nD) ∧
  ((k0_dev15 d0 v10) < nD)
theorem k0_dev1_lt : ∀ (d0 : Dev nD) (v10 : BitVec 32) (k0_hw1 : k0_chk1 d0 v10), (k0_dev1 d0 v10) < nD := fun d0 v10 k0_hw1 => k0_hw1.1
theorem k0_dev4_lt : ∀ (d0 : Dev nD) (v10 : BitVec 32) (k0_hw1 : k0_chk1 d0 v10), (k0_dev4 d0 v10) < nD := fun d0 v10 k0_hw1 => k0_hw1.2.1
theorem k0_dev5_lt : ∀ (d0 : Dev nD) (v10 : BitVec 32) (k0_hw1 : k0_chk1 d0 v10), (k0_dev5 d0 v10) < nD := fun d0 v10 k0_hw1 => k0_hw1.2.2.1
theorem k0_dev6_lt : ∀ (d0 : Dev nD) (v10 : BitVec 32) (k0_hw1 : k0_chk1 d0 v10), (k0_dev6 d0 v10) < nD := fun d0 v10 k0_hw1 => k0_hw1.2.2.2.1
theorem k0_dev7_lt : ∀ (d0 : Dev nD) (v10 : BitVec 32) (k0_hw1 : k0_chk1 d0 v10), (k0_dev7 d0 v10) < nD := fun d0 v10 k0_hw1 => k0_hw1.2.2.2.2.1
theorem k0_dev8_lt : ∀ (d0 : Dev nD) (v10 : BitVec 32) (k0_hw1 : k0_chk1 d0 v10), (k0_dev8 d0 v10) < nD := fun d0 v10 k0_hw1 => k0_hw1.2.2.2.2.2.1
theorem k0_dev9_lt : ∀ (d0 : Dev nD) (v10 : BitVec 32) (k0_hw1 : k0_chk1 d0 v10), (k0_dev9 d0 v10) < nD := fun d0 v10 k0_hw1 => k0_hw1.2.2.2.2.2.2.1
theorem k0_dev10_lt : ∀ (d0 : Dev nD) (v10 : BitVec 32) (k0_hw1 : k0_chk1 d0 v10), (k0_dev10 d0 v10) < nD := fun d0 v10 k0_hw1 => k0_hw1.2.2.2.2.2.2.2.1
theorem k0_dev11_lt : ∀ (d0 : Dev nD) (v10 : BitVec 32) (k0_hw1 : k0_chk1 d0 v10), (k0_dev11 d0 v10) < nD := fun d0 v10 k0_hw1 => k0_hw1.2.2.2.2.2.2.2.2.1
theorem k0_dev12_lt : ∀ (d0 : Dev nD) (v10 : BitVec 32) (k0_hw1 : k0_chk1 d0 v10), (k0_dev12 d0 v10) < nD := fun d0 v10 k0_hw1 => k0_hw1.2.2.2.2.2.2.2.2.2.1
theorem k0_dev13_lt : ∀ (d0 : Dev nD) (v10 : BitVec 32) (k0_hw1 : k0_chk1 d0 v10), (k0_dev13 d0 v10) < nD := fun d0 v10 k0_hw1 => k0_hw1.2.2.2.2.2.2.2.2.2.2.1
theorem k0_dev14_lt : ∀ (d0 : Dev nD) (v10 : BitVec 32) (k0_hw1 : k0_chk1 d0 v10), (k0_dev14 d0 v10) < nD := fun d0 v10 k0_hw1 => k0_hw1.2.2.2.2.2.2.2.2.2.2.2.1
theorem k0_dev15_lt : ∀ (d0 : Dev nD) (v10 : BitVec 32) (k0_hw1 : k0_chk1 d0 v10), (k0_dev15 d0 v10) < nD := fun d0 v10 k0_hw1 => k0_hw1.2.2.2.2.2.2.2.2.2.2.2.2

def k0_dev16 (d0 : Dev nD) : Nat :=
  let c0_i32_385 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_384 : BitVec 32 := 4#32
  let v465 : BitVec 32 := Scalar.muli v2 c4_i32_384
  let v466 : BitVec 32 := Scalar.addi c0_i32_385 v465
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_3 v5
  let c2_i32_386 : BitVec 32 := 2#32
  let v467 : BitVec 32 := Scalar.muli v11 c2_i32_386
  let v468 : BitVec 32 := Scalar.addi v466 v467
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_387 : BitVec 32 := 1#32
  let v469 : BitVec 32 := Scalar.muli v8 c1_i32_387
  let v470 : BitVec 32 := Scalar.addi v468 v469
  v470.toNat
def k0_dev17 (d0 : Dev nD) : Nat :=
  let c0_i32_395 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_394 : BitVec 32 := 4#32
  let v479 : BitVec 32 := Scalar.muli v2 c4_i32_394
  let v480 : BitVec 32 := Scalar.addi c0_i32_395 v479
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_396 : BitVec 32 := 2#32
  let v481 : BitVec 32 := Scalar.muli v5 c2_i32_396
  let v482 : BitVec 32 := Scalar.addi v480 v481
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.subi c1_i32_4 v8
  let c1_i32_397 : BitVec 32 := 1#32
  let v483 : BitVec 32 := Scalar.muli v12 c1_i32_397
  let v484 : BitVec 32 := Scalar.addi v482 v483
  v484.toNat
def k0_dev18 (d0 : Dev nD) : Nat :=
  let c0_i32_417 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_416 : BitVec 32 := 4#32
  let v506 : BitVec 32 := Scalar.muli v2 c4_i32_416
  let v507 : BitVec 32 := Scalar.addi c0_i32_417 v506
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_3 v5
  let c2_i32_418 : BitVec 32 := 2#32
  let v508 : BitVec 32 := Scalar.muli v11 c2_i32_418
  let v509 : BitVec 32 := Scalar.addi v507 v508
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_419 : BitVec 32 := 1#32
  let v510 : BitVec 32 := Scalar.muli v8 c1_i32_419
  let v511 : BitVec 32 := Scalar.addi v509 v510
  v511.toNat
def k0_dev19 (d0 : Dev nD) : Nat :=
  let c0_i32_427 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_426 : BitVec 32 := 4#32
  let v520 : BitVec 32 := Scalar.muli v2 c4_i32_426
  let v521 : BitVec 32 := Scalar.addi c0_i32_427 v520
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_428 : BitVec 32 := 2#32
  let v522 : BitVec 32 := Scalar.muli v5 c2_i32_428
  let v523 : BitVec 32 := Scalar.addi v521 v522
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.subi c1_i32_4 v8
  let c1_i32_429 : BitVec 32 := 1#32
  let v524 : BitVec 32 := Scalar.muli v12 c1_i32_429
  let v525 : BitVec 32 := Scalar.addi v523 v524
  v525.toNat
def k0_dev20 (d0 : Dev nD) : Nat :=
  let c0_i32_449 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_448 : BitVec 32 := 4#32
  let v547 : BitVec 32 := Scalar.muli v2 c4_i32_448
  let v548 : BitVec 32 := Scalar.addi c0_i32_449 v547
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_3 v5
  let c2_i32_450 : BitVec 32 := 2#32
  let v549 : BitVec 32 := Scalar.muli v11 c2_i32_450
  let v550 : BitVec 32 := Scalar.addi v548 v549
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_451 : BitVec 32 := 1#32
  let v551 : BitVec 32 := Scalar.muli v8 c1_i32_451
  let v552 : BitVec 32 := Scalar.addi v550 v551
  v552.toNat
def k0_dev21 (d0 : Dev nD) : Nat :=
  let c0_i32_459 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_458 : BitVec 32 := 4#32
  let v561 : BitVec 32 := Scalar.muli v2 c4_i32_458
  let v562 : BitVec 32 := Scalar.addi c0_i32_459 v561
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_460 : BitVec 32 := 2#32
  let v563 : BitVec 32 := Scalar.muli v5 c2_i32_460
  let v564 : BitVec 32 := Scalar.addi v562 v563
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.subi c1_i32_4 v8
  let c1_i32_461 : BitVec 32 := 1#32
  let v565 : BitVec 32 := Scalar.muli v12 c1_i32_461
  let v566 : BitVec 32 := Scalar.addi v564 v565
  v566.toNat
def k0_dev22 (d0 : Dev nD) : Nat :=
  let c0_i32_481 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_480 : BitVec 32 := 4#32
  let v588 : BitVec 32 := Scalar.muli v2 c4_i32_480
  let v589 : BitVec 32 := Scalar.addi c0_i32_481 v588
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_3 v5
  let c2_i32_482 : BitVec 32 := 2#32
  let v590 : BitVec 32 := Scalar.muli v11 c2_i32_482
  let v591 : BitVec 32 := Scalar.addi v589 v590
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_483 : BitVec 32 := 1#32
  let v592 : BitVec 32 := Scalar.muli v8 c1_i32_483
  let v593 : BitVec 32 := Scalar.addi v591 v592
  v593.toNat
def k0_dev23 (d0 : Dev nD) : Nat :=
  let c0_i32_491 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_490 : BitVec 32 := 4#32
  let v602 : BitVec 32 := Scalar.muli v2 c4_i32_490
  let v603 : BitVec 32 := Scalar.addi c0_i32_491 v602
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_492 : BitVec 32 := 2#32
  let v604 : BitVec 32 := Scalar.muli v5 c2_i32_492
  let v605 : BitVec 32 := Scalar.addi v603 v604
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.subi c1_i32_4 v8
  let c1_i32_493 : BitVec 32 := 1#32
  let v606 : BitVec 32 := Scalar.muli v12 c1_i32_493
  let v607 : BitVec 32 := Scalar.addi v605 v606
  v607.toNat
def k0_dev24 (d0 : Dev nD) : Nat :=
  let c0_i32_513 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_512 : BitVec 32 := 4#32
  let v629 : BitVec 32 := Scalar.muli v2 c4_i32_512
  let v630 : BitVec 32 := Scalar.addi c0_i32_513 v629
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_3 v5
  let c2_i32_514 : BitVec 32 := 2#32
  let v631 : BitVec 32 := Scalar.muli v11 c2_i32_514
  let v632 : BitVec 32 := Scalar.addi v630 v631
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_515 : BitVec 32 := 1#32
  let v633 : BitVec 32 := Scalar.muli v8 c1_i32_515
  let v634 : BitVec 32 := Scalar.addi v632 v633
  v634.toNat
def k0_dev25 (d0 : Dev nD) : Nat :=
  let c0_i32_523 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_522 : BitVec 32 := 4#32
  let v643 : BitVec 32 := Scalar.muli v2 c4_i32_522
  let v644 : BitVec 32 := Scalar.addi c0_i32_523 v643
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_524 : BitVec 32 := 2#32
  let v645 : BitVec 32 := Scalar.muli v5 c2_i32_524
  let v646 : BitVec 32 := Scalar.addi v644 v645
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.subi c1_i32_4 v8
  let c1_i32_525 : BitVec 32 := 1#32
  let v647 : BitVec 32 := Scalar.muli v12 c1_i32_525
  let v648 : BitVec 32 := Scalar.addi v646 v647
  v648.toNat
def k0_dev26 (d0 : Dev nD) : Nat :=
  let c0_i32_545 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_544 : BitVec 32 := 4#32
  let v670 : BitVec 32 := Scalar.muli v2 c4_i32_544
  let v671 : BitVec 32 := Scalar.addi c0_i32_545 v670
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_3 v5
  let c2_i32_546 : BitVec 32 := 2#32
  let v672 : BitVec 32 := Scalar.muli v11 c2_i32_546
  let v673 : BitVec 32 := Scalar.addi v671 v672
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_547 : BitVec 32 := 1#32
  let v674 : BitVec 32 := Scalar.muli v8 c1_i32_547
  let v675 : BitVec 32 := Scalar.addi v673 v674
  v675.toNat
def k0_dev27 (d0 : Dev nD) : Nat :=
  let c0_i32_555 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_554 : BitVec 32 := 4#32
  let v684 : BitVec 32 := Scalar.muli v2 c4_i32_554
  let v685 : BitVec 32 := Scalar.addi c0_i32_555 v684
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_556 : BitVec 32 := 2#32
  let v686 : BitVec 32 := Scalar.muli v5 c2_i32_556
  let v687 : BitVec 32 := Scalar.addi v685 v686
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.subi c1_i32_4 v8
  let c1_i32_557 : BitVec 32 := 1#32
  let v688 : BitVec 32 := Scalar.muli v12 c1_i32_557
  let v689 : BitVec 32 := Scalar.addi v687 v688
  v689.toNat
def k0_dev28 (d0 : Dev nD) : Nat :=
  let c0_i32_577 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_576 : BitVec 32 := 4#32
  let v711 : BitVec 32 := Scalar.muli v2 c4_i32_576
  let v712 : BitVec 32 := Scalar.addi c0_i32_577 v711
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_3 v5
  let c2_i32_578 : BitVec 32 := 2#32
  let v713 : BitVec 32 := Scalar.muli v11 c2_i32_578
  let v714 : BitVec 32 := Scalar.addi v712 v713
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_579 : BitVec 32 := 1#32
  let v715 : BitVec 32 := Scalar.muli v8 c1_i32_579
  let v716 : BitVec 32 := Scalar.addi v714 v715
  v716.toNat
def k0_dev29 (d0 : Dev nD) : Nat :=
  let c0_i32_587 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_586 : BitVec 32 := 4#32
  let v725 : BitVec 32 := Scalar.muli v2 c4_i32_586
  let v726 : BitVec 32 := Scalar.addi c0_i32_587 v725
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_588 : BitVec 32 := 2#32
  let v727 : BitVec 32 := Scalar.muli v5 c2_i32_588
  let v728 : BitVec 32 := Scalar.addi v726 v727
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.subi c1_i32_4 v8
  let c1_i32_589 : BitVec 32 := 1#32
  let v729 : BitVec 32 := Scalar.muli v12 c1_i32_589
  let v730 : BitVec 32 := Scalar.addi v728 v729
  v730.toNat
def k0_dev30 (d0 : Dev nD) : Nat :=
  let c0_i32_609 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_608 : BitVec 32 := 4#32
  let v752 : BitVec 32 := Scalar.muli v2 c4_i32_608
  let v753 : BitVec 32 := Scalar.addi c0_i32_609 v752
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_3 v5
  let c2_i32_610 : BitVec 32 := 2#32
  let v754 : BitVec 32 := Scalar.muli v11 c2_i32_610
  let v755 : BitVec 32 := Scalar.addi v753 v754
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_611 : BitVec 32 := 1#32
  let v756 : BitVec 32 := Scalar.muli v8 c1_i32_611
  let v757 : BitVec 32 := Scalar.addi v755 v756
  v757.toNat
def k0_dev31 (d0 : Dev nD) : Nat :=
  let c0_i32_619 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_618 : BitVec 32 := 4#32
  let v766 : BitVec 32 := Scalar.muli v2 c4_i32_618
  let v767 : BitVec 32 := Scalar.addi c0_i32_619 v766
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_620 : BitVec 32 := 2#32
  let v768 : BitVec 32 := Scalar.muli v5 c2_i32_620
  let v769 : BitVec 32 := Scalar.addi v767 v768
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.subi c1_i32_4 v8
  let c1_i32_621 : BitVec 32 := 1#32
  let v770 : BitVec 32 := Scalar.muli v12 c1_i32_621
  let v771 : BitVec 32 := Scalar.addi v769 v770
  v771.toNat
def k0_off4 (d0 : Dev nD) (c128_i32_635 : BitVec 32) : Fin 3 → Nat :=
  let c0_i32_637 : BitVec 32 := 0#32
  let c2_i32_11 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.muli c2_i32_11 v5
  let c1_i32_12 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v23 : BitVec 32 := Scalar.subi c1_i32_12 v8
  let v24 : BitVec 32 := Scalar.addi v22 v23
  let c256_i32_634 : BitVec 32 := 256#32
  let v792 : BitVec 32 := Scalar.muli v24 c256_i32_634
  let v793 : BitVec 32 := Scalar.addi v792 c128_i32_635
  let c0_i32_644 : BitVec 32 := 0#32
  ![0, v793.toNat, 0]
def k0_dev32 (d0 : Dev nD) : Nat :=
  let c0_i32_641 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_640 : BitVec 32 := 4#32
  let v794 : BitVec 32 := Scalar.muli v2 c4_i32_640
  let v795 : BitVec 32 := Scalar.addi c0_i32_641 v794
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_3 v5
  let c2_i32_642 : BitVec 32 := 2#32
  let v796 : BitVec 32 := Scalar.muli v11 c2_i32_642
  let v797 : BitVec 32 := Scalar.addi v795 v796
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_643 : BitVec 32 := 1#32
  let v798 : BitVec 32 := Scalar.muli v8 c1_i32_643
  let v799 : BitVec 32 := Scalar.addi v797 v798
  v799.toNat
def k0_dev33 (d0 : Dev nD) : Nat :=
  let c0_i32_663 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_662 : BitVec 32 := 4#32
  let v822 : BitVec 32 := Scalar.muli v2 c4_i32_662
  let v823 : BitVec 32 := Scalar.addi c0_i32_663 v822
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_3 v5
  let c2_i32_664 : BitVec 32 := 2#32
  let v824 : BitVec 32 := Scalar.muli v11 c2_i32_664
  let v825 : BitVec 32 := Scalar.addi v823 v824
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_665 : BitVec 32 := 1#32
  let v826 : BitVec 32 := Scalar.muli v8 c1_i32_665
  let v827 : BitVec 32 := Scalar.addi v825 v826
  v827.toNat
def k0_off5 (d0 : Dev nD) (c192_i32_679 : BitVec 32) : Fin 3 → Nat :=
  let c0_i32_681 : BitVec 32 := 0#32
  let c2_i32_10 : BitVec 32 := 2#32
  let c1_i32_9 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.subi c1_i32_9 v5
  let v20 : BitVec 32 := Scalar.muli c2_i32_10 v19
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v21 : BitVec 32 := Scalar.addi v20 v8
  let c256_i32_678 : BitVec 32 := 256#32
  let v848 : BitVec 32 := Scalar.muli v21 c256_i32_678
  let v849 : BitVec 32 := Scalar.addi v848 c192_i32_679
  let c0_i32_688 : BitVec 32 := 0#32
  ![0, v849.toNat, 0]
def k0_dev34 (d0 : Dev nD) : Nat :=
  let c0_i32_685 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_684 : BitVec 32 := 4#32
  let v850 : BitVec 32 := Scalar.muli v2 c4_i32_684
  let v851 : BitVec 32 := Scalar.addi c0_i32_685 v850
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_686 : BitVec 32 := 2#32
  let v852 : BitVec 32 := Scalar.muli v5 c2_i32_686
  let v853 : BitVec 32 := Scalar.addi v851 v852
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.subi c1_i32_4 v8
  let c1_i32_687 : BitVec 32 := 1#32
  let v854 : BitVec 32 := Scalar.muli v12 c1_i32_687
  let v855 : BitVec 32 := Scalar.addi v853 v854
  v855.toNat
def k0_dev35 (d0 : Dev nD) : Nat :=
  let c0_i32_707 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_706 : BitVec 32 := 4#32
  let v878 : BitVec 32 := Scalar.muli v2 c4_i32_706
  let v879 : BitVec 32 := Scalar.addi c0_i32_707 v878
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_708 : BitVec 32 := 2#32
  let v880 : BitVec 32 := Scalar.muli v5 c2_i32_708
  let v881 : BitVec 32 := Scalar.addi v879 v880
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.subi c1_i32_4 v8
  let c1_i32_709 : BitVec 32 := 1#32
  let v882 : BitVec 32 := Scalar.muli v12 c1_i32_709
  let v883 : BitVec 32 := Scalar.addi v881 v882
  v883.toNat
abbrev stage0_0 : Fin 1 → Memref sig .tc .smem S2 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S2x1024x1024 : Shape := ⟨3, ![2, 1024, 1024]⟩
abbrev S2 : Shape := ⟨1, ![2]⟩
abbrev S_ : Shape := ⟨0, ![]⟩
abbrev S2x1 : Shape := ⟨2, ![2, 1]⟩

abbrev nBuf : Space → Nat
  | .hbm => 16
  | .vmem => 0
  | .smem => 0
  | _ => 0

abbrev bufTy : (tb : Table) → Fin (tcTables nBuf tb) → BufTy
  | .hbm, ⟨0, _⟩ => ⟨S2x1024x1024, .bf16⟩
  | .hbm, ⟨1, _⟩ => ⟨S2, .i32⟩
  | .hbm, ⟨2, _⟩ => ⟨S2, .i32⟩
  | .hbm, ⟨3, _⟩ => ⟨S2, .i32⟩
  | .hbm, ⟨4, _⟩ => ⟨S2, .i32⟩
  | .hbm, ⟨5, _⟩ => ⟨S_, .i32⟩
  | .hbm, ⟨6, _⟩ => ⟨S2, .i32⟩
  | .hbm, ⟨7, _⟩ => ⟨S2, .i1⟩
  | .hbm, ⟨8, _⟩ => ⟨S_, .i32⟩
  | .hbm, ⟨9, _⟩ => ⟨S2, .i32⟩
  | .hbm, ⟨10, _⟩ => ⟨S2, .i32⟩
  | .hbm, ⟨11, _⟩ => ⟨S2, .i32⟩
  | .hbm, ⟨12, _⟩ => ⟨S2x1, .i32⟩
  | .hbm, ⟨13, _⟩ => ⟨S2x1024x1024, .bf16⟩
  | .hbm, ⟨14, _⟩ => ⟨S2x1024x1024, .f32⟩
  | .hbm, ⟨15, _⟩ => ⟨S2x1024x1024, .bf16⟩
  | _, _ => ⟨S2x1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1_0 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== Proof.Names.lean ====
/-
# The transfers of the kernel by name

The kernel exchanges 32-row pieces between eight devices on a 2×2×2 mesh. Each device sends 12 pieces
along the first mesh axis and 10 along each of the other two. A transfer is named by its axis and its
number along that axis; the device that sends it and the device that receives it use the same name. This file holds the
names, the neighbour on each axis, and which of the 32 pieces of the result each transfer fills.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Exch

open Cert.KernelIdeal Cert.KernelIdeal.Gen
open Idealize.ShloMosaic

/-- A transfer: number `k` along the first axis, or number `k` along the second (`false`) or third (`true`). -/
abbrev E : Type := Fin 12 ⊕ (Bool × Fin 10)

/-- The three mesh axes. -/
abbrev Ax : Type := Fin 3

set_option backward.proofsInPublic true in
/-- The device across axis `a`: the device number is `4x + 2y + z`. -/
def peer (a : Ax) (c : Dev nD) : Dev nD :=
  if a = 0 then ⟨(c.val + 4) % 8, Nat.mod_lt _ (by decide)⟩
  else if a = 1 then ⟨(4 * (c.val / 4) + c.val % 2 + 2 - 2 * (c.val / 2 % 2)) % 8, Nat.mod_lt _ (by decide)⟩
  else ⟨(4 * (c.val / 4) + 2 * (c.val / 2 % 2) + 1 - c.val % 2) % 8, Nat.mod_lt _ (by decide)⟩

theorem peer_peer : ∀ (a : Ax) (c : Dev nD), peer a (peer a c) = c := by decide

/-- The axis a transfer runs along. -/
def ax : E → Ax
  | .inl _ => 0
  | .inr (false, _) => 1
  | .inr (true, _) => 2

/-- Which quarter of the rows a device owns. -/
abbrev quarter (c : Dev nD) : ℕ := c.val % 4

set_option backward.proofsInPublic true in
/-- The piece of device `c`'s own result that incoming transfer `e` fills. -/
def sub (c : Dev nD) : E → Fin 32
  | .inl k =>
      if k.val < 8 then ⟨(8 * quarter c + (k.val + 4) % 8) % 32, Nat.mod_lt _ (by decide)⟩
      else ⟨(8 * (3 - quarter c) + (k.val - 8)) % 32, Nat.mod_lt _ (by decide)⟩
  | .inr (b, k) =>
      if k.val < 8 then ⟨(8 * quarter (peer (if b then 2 else 1) c) + (k.val + 4) % 8) % 32, Nat.mod_lt _ (by decide)⟩
      else ⟨(8 * (3 - quarter c) + (k.val - (if b then 2 else 4))) % 32, Nat.mod_lt _ (by decide)⟩

/-- The 32 incoming transfers fill the 32 pieces, each one. -/
theorem sub_injective : ∀ c : Dev nD, Function.Injective (sub c) := by decide +kernel
theorem sub_surjective : ∀ c : Dev nD, Function.Surjective (sub c) := by decide +kernel

/-- Where an outgoing transfer takes its piece: from the copied operand (`none`), or from an earlier incoming one. -/
def src : E → Option E
  | .inl _ => none
  | .inr (b, k) =>
      if h : k.val < 8 then some (.inl ⟨k.val, by omega⟩)
      else if b then some (.inr (false, ⟨k.val - 6, by omega⟩)) else some (.inr (true, ⟨k.val - 8, by omega⟩))

/-- The device whose operand ends in device `c`'s piece `s`: across the first axis, in the quarter's own column. -/
def orig (c : Dev nD) (s : Fin 32) : Dev nD :=
  let p := peer 0 c
  if s.val / 8 = quarter c then p
  else if s.val / 8 = 3 - quarter c then (if s.val % 8 < 4 then p else if s.val % 8 < 6 then peer 1 (peer 2 p) else peer 2 (peer 1 p))
  else if s.val / 8 = quarter (peer 1 c) then peer 1 p else peer 2 p

theorem orig_first : ∀ (c : Dev nD) (k : Fin 12), orig (peer 0 c) (sub (peer 0 c) (.inl k)) = c := by decide +kernel
theorem orig_row : ∀ (c : Dev nD) (s : Fin 32), (orig c s).val / 4 = (peer 0 c).val / 4 := by decide +kernel

/-- A forwarded piece is the same piece on the device it goes to, -/
theorem sub_src : ∀ (c : Dev nD) (e e' : E), src e = some e' → sub (peer (ax e) c) e = sub c e' := by decide +kernel
/-- and comes of the same operand. -/
theorem orig_src : ∀ (c : Dev nD) (e e' : E), src e = some e' → orig (peer (ax e) c) (sub c e') = orig c (sub c e') := by decide +kernel

/-- A piece is forwarded at most once along each axis. -/
theorem src_ax : ∀ (e e' : E), src e = some e' → ax e ≠ 0 := by decide +kernel

end Cert.Exch
end
-- ==== Proof.Script.lean ====
/-
# The kernel's body as a list of steps

The printed body is a straight line of some 190 operations: signals, local copies, stores, remote copies and waits. Here
it is a list of named steps; `body_eq` says the printed body is exactly that list run in order.
-/
module

public import proofs.«01_k».proof.Proof.Names

@[expose] public section

noncomputable section

namespace Cert.Exch

open Cert.KernelIdeal Cert.KernelIdeal.Gen
open Idealize.ShloMosaic Idealize.SL.Sem

variable {F : FTy → Type} [FloatOps F]

/-! ## The memrefs -/

abbrev xM : Memref sig .tc .hbm S1x1024x1024 .bf16 := Memref.whole main_arg0
abbrev piM : Memref sig .tc .smem S2 .i32 := Memref.whole cc0_stg0_0
abbrev oM : Memref sig .tc .vmem S1x1024x1024 .bf16 := Memref.whole cc0_stg1_0
abbrev stM : Memref sig .tc .vmem S2x32x1024 .bf16 := Memref.whole cc0_scratch0
abbrev cxM : Memref sig .tc .vmem S384x1024 .bf16 := Memref.whole cc0_scratch1

/-! ## Offsets: the destination of each outgoing transfer, as the sender computes it -/

/-- The destination's offsets of outgoing transfer `e` of device `c`. -/
def dOff (c : Dev nD) : E → Fin 3 → ℕ
  | .inl k => if k.val < 8 then k0_off2 c (BitVec.ofNat 32 (32 * ((k.val + 4) % 8))) else k0_off3 c (BitVec.ofNat 32 (32 * (k.val - 8)))
  | .inr (b, k) =>
      if k.val < 8 then k0_off2 c (BitVec.ofNat 32 (32 * ((k.val + 4) % 8)))
      else if b then k0_off5 c (BitVec.ofNat 32 (32 * (k.val - 2))) else k0_off4 c (BitVec.ofNat 32 (32 * (k.val - 4)))

theorem dOff_inb : ∀ (c : Dev nD) (e : E) (a : Fin 3), dOff c e a + S1x32x1024.size a ≤ S1x1024x1024.size a := by decide +kernel

abbrev dRect (c : Dev nD) (e : E) : Rect S1x1024x1024 := Rect.unit (s := S1x1024x1024) (dOff c e) S1x32x1024.size (dOff_inb c e)

theorem dOff_words : ∀ (c : Dev nD) (e : E), (dRect c e).WholeWords (EltTy.packing .bf16) := by decide +kernel

/-- The closed form: piece `sub` of the receiving device. -/
theorem dOff_eq : ∀ (c : Dev nD) (e : E), dOff c e = ![0, 32 * (sub (peer (ax e) c) e).val, 0] := by decide +kernel

theorem stInb : ∀ (i : Fin 2) (a : Fin 3), (![i.val, 0, 0] : Fin 3 → ℕ) a + S1x32x1024.size a ≤ S2x32x1024.size a := by decide
abbrev stRect (i : Fin 2) : Rect S2x32x1024 := Rect.unit (s := S2x32x1024) ![i.val, 0, 0] S1x32x1024.size (stInb i)
theorem st_words : ∀ i : Fin 2, (stRect i).WholeWords (EltTy.packing .bf16) := by decide
theorem cxInb : ∀ (k : Fin 12) (a : Fin 2), (![32 * k.val, 0] : Fin 2 → ℕ) a + S32x1024.size a ≤ S384x1024.size a := by decide
abbrev cxRect (k : Fin 12) : Rect S384x1024 := Rect.unit (s := S384x1024) ![32 * k.val, 0] S32x1024.size (cxInb k)
theorem cx_words : ∀ k : Fin 12, (cxRect k).WholeWords (EltTy.packing .bf16) := by decide
theorem cx_packed : ∀ k : Fin 12, (cxRect k).PackedRows (EltTy.packing .bf16) := by decide

/-- A piece of the operand, of the result, of the staging buffer, of the send buffer. -/
abbrev xP (c : Dev nD) (e : E) : Memref sig .tc .hbm S32x1024 .bf16 := (xM.slice (dRect c e) (fun _ => rfl)).squeeze S32x1024 squeezes_S1x32x1024_S32x1024
abbrev oP (c : Dev nD) (e : E) : Memref sig .tc .vmem S32x1024 .bf16 := (oM.slice (dRect c e) (fun _ => rfl)).squeeze S32x1024 squeezes_S1x32x1024_S32x1024
abbrev stP (i : Fin 2) : Memref sig .tc .vmem S32x1024 .bf16 := (stM.slice (stRect i) (fun _ => rfl)).squeeze S32x1024 squeezes_S1x32x1024_S32x1024
abbrev cxP (k : Fin 12) : Memref sig .tc .vmem S32x1024 .bf16 := cxM.slice (cxRect k) (fun _ => rfl)

theorem xP_exact (c : Dev nD) (e : E) : (xP c e).view.WordExact := ((Memref.isWhole_whole main_arg0).wordExact_slice rfl _ (dOff_words c e)).reshape _ _
theorem oP_exact (c : Dev nD) (e : E) : (oP c e).view.WordExact := ((Memref.isWhole_whole cc0_stg1_0).wordExact_slice rfl _ (dOff_words c e)).reshape _ _
theorem stP_exact (i : Fin 2) : (stP i).view.WordExact := ((Memref.isWhole_whole cc0_scratch0).wordExact_slice rfl _ (st_words i)).reshape _ _
theorem cxP_exact (k : Fin 12) : (cxP k).view.WordExact := (Memref.isWhole_whole cc0_scratch1).wordExact_slice rfl _ (cx_words k)

/-! ## Semaphores -/

theorem inb2 : ∀ (k : Fin 2) (a : Fin 1), (![k.val] : Fin 1 → ℕ) a + S1.size a ≤ S2.size a := by decide
theorem inb12 : ∀ (k : Fin 12) (a : Fin 1), (![k.val] : Fin 1 → ℕ) a + S1.size a ≤ S12.size a := by decide
theorem inb10 : ∀ (k : Fin 10) (a : Fin 1), (![k.val] : Fin 1 → ℕ) a + S1.size a ≤ S10.size a := by decide

abbrev at2 (s : DmaSems sig S2) (k : Fin 2) : DmaSem sig := ((s.slice (Rect.unit (s := S2) ![k.val] S1.size (inb2 k))).squeeze S_ squeezes_S1_S_).sem
abbrev at12 (s : DmaSems sig S12) (k : Fin 12) : DmaSem sig := ((s.slice (Rect.unit (s := S12) ![k.val] S1.size (inb12 k))).squeeze S_ squeezes_S1_S_).sem
abbrev at10 (s : DmaSems sig S10) (k : Fin 10) : DmaSem sig := ((s.slice (Rect.unit (s := S10) ![k.val] S1.size (inb10 k))).squeeze S_ squeezes_S1_S_).sem

def cpS (i : Fin 2) : DmaSem sig := at2 cc0_scratch2 i
def sndS : E → DmaSem sig
  | .inl k => at12 cc0_scratch3 k
  | .inr (false, k) => at10 cc0_scratch5 k
  | .inr (true, k) => at10 cc0_scratch7 k
def rcvS : E → DmaSem sig
  | .inl k => at12 cc0_scratch4 k
  | .inr (false, k) => at10 cc0_scratch6 k
  | .inr (true, k) => at10 cc0_scratch8 k

abbrev barS : Sem sig := (SemArray.scalar (sig.barrier 0 rfl) : Sems sig S_).sem

/-! ## The steps -/

/-- One step: a signal along an axis; the local copy `k`, its wait, its store into the send buffer; the wait for the three
    signals; an outgoing transfer, the wait that it has left, the wait that an incoming one has landed. -/
inductive Step | sig (a : Ax) | fetch (k : Fin 12) | land (k : Fin 12) | stash (k : Fin 12) | bar | send (e : E) | sent (e : E) | recv (e : E)

/-- The staging slot of local copy `k`. -/
abbrev slot (k : Fin 12) : Fin 2 := ⟨k.val % 2, Nat.mod_lt _ (by decide)⟩

section
variable (c : Dev nD) (v : Elt F .i32) (hw : k0_chk1 c v)

/-- The devices a step addresses, as the kernel computes them. -/
def toS (a : Ax) : Dev nD :=
  if a = 0 then ⟨k0_dev1 c v, k0_dev1_lt c v hw⟩ else if a = 1 then ⟨k0_dev2 c, k0_dev2_lt c⟩ else ⟨k0_dev3 c, k0_dev3_lt c⟩
def toE : E → Dev nD
  | .inl _ => ⟨k0_dev4 c v, k0_dev4_lt c v hw⟩
  | .inr (false, _) => ⟨k0_dev16 c, k0_dev16_lt c⟩
  | .inr (true, _) => ⟨k0_dev17 c, k0_dev17_lt c⟩

def stepProg : Step → Prog (TpuEff nD τ sig (Elt F) Λ₀ .tc) PUnit
  | .sig a => semSignalWord (toS (F := F) c v hw a) barS 1#32
  | .fetch k => Prog.lift (.enqueueDma (xP c (.inl k)) (.here (stP (slot k))) (.dma (cpS (slot k))) (xP_exact c (.inl k)) (stP_exact (slot k)) ⟨Or.inl rfl, trivial⟩)
  | .land k => Prog.lift (.waitDma2 (cpS (slot k)) (xP c (.inl k)) (stP (slot k)) (xP_exact c (.inl k)) (stP_exact (slot k)))
  | .stash k => do
      let w : Vec F S1x32x1024 .bf16 ← Prog.lift (.load stM (stRect (slot k)).toLoadRect (View.loadsAt_vmem h_S1x32x1024))
      let _ : Vec F S32x1024 .bf16 ← Prog.lift (.load cxM (cxRect k).toLoadRect (View.loadsAt_vmem h_S32x1024))
      Prog.lift (.store cxM (cxRect k) (k0_pay1 w) Finset.univ (View.stores_vmem h_S32x1024 ((Memref.isWhole_whole cc0_scratch1).storeExact_slice rfl _ (cx_packed k)) (fun _ => rfl)) (.inl rfl))
  | .bar => semWaitWord barS 3#32
  | .send (.inl k) => Prog.lift (.enqueueDma (cxP k) (.remote (Dev.tc (toE (F := F) c v hw (.inl k))) (oP c (.inl k)) (.dma (sndS (.inl k)))) (.dma (rcvS (.inl k))) (cxP_exact k) (oP_exact c (.inl k)) ⟨⟨rfl, Or.inl rfl⟩, trivial⟩)
  | .send (.inr e) => Prog.lift (.enqueueDma (oP c (.inr e)) (.remote (Dev.tc (toE (F := F) c v hw (.inr e))) (oP c (.inr e)) (.dma (sndS (.inr e)))) (.dma (rcvS (.inr e))) (oP_exact c (.inr e)) (oP_exact c (.inr e)) ⟨⟨rfl, Or.inl rfl⟩, trivial⟩)
  | .sent (.inl k) => Prog.lift (.waitDma2 (sndS (.inl k)) (oP c (.inl k)) (cxP k) (oP_exact c (.inl k)) (cxP_exact k))
  | .sent (.inr e) => Prog.lift (.waitDma2 (sndS (.inr e)) (oP c (.inr e)) (oP c (.inr e)) (oP_exact c (.inr e)) (oP_exact c (.inr e)))
  | .recv (.inl k) => Prog.lift (.waitDma2 (rcvS (.inl k)) (cxP k) (oP c (.inl k)) (cxP_exact k) (oP_exact c (.inl k)))
  | .recv (.inr e) => Prog.lift (.waitDma2 (rcvS (.inr e)) (oP c (.inr e)) (oP c (.inr e)) (oP_exact c (.inr e)) (oP_exact c (.inr e)))

def progOf : List Step → Prog (TpuEff nD τ sig (Elt F) Λ₀ .tc) PUnit
  | [] => pure ⟨⟩
  | s :: ss => stepProg c v hw s >>= fun _ => progOf ss

end

abbrev X (k : Fin 12) : E := .inl k
abbrev Y (k : Fin 10) : E := .inr (false, k)
abbrev Z (k : Fin 10) : E := .inr (true, k)

/-- The body's steps in program order. -/
def steps : List Step :=
  [.sig 0, .sig 1, .sig 2, .fetch 0, .fetch 1, .land 0, .stash 0, .bar, .send (X 0),
   .fetch 2, .land 1, .stash 1, .send (X 1), .fetch 3, .land 2, .stash 2, .send (X 2), .fetch 4, .land 3, .stash 3, .send (X 3),
   .fetch 5, .land 4, .stash 4, .send (X 4), .fetch 6, .land 5, .stash 5, .send (X 5), .fetch 7, .land 6, .stash 6, .send (X 6),
   .fetch 8, .land 7, .stash 7, .send (X 7), .fetch 9, .land 8, .stash 8, .send (X 8), .fetch 10, .land 9, .stash 9, .send (X 9),
   .fetch 11, .land 10, .stash 10, .send (X 10), .land 11, .stash 11, .send (X 11),
   .recv (X 0), .send (Y 0), .send (Z 0), .recv (X 1), .send (Y 1), .send (Z 1), .recv (X 2), .send (Y 2), .send (Z 2),
   .recv (X 3), .send (Y 3), .send (Z 3), .recv (X 4), .send (Y 4), .send (Z 4), .recv (X 5), .send (Y 5), .send (Z 5),
   .recv (X 6), .send (Y 6), .send (Z 6), .recv (X 7), .send (Y 7), .send (Z 7),
   .recv (Z 0), .send (Y 8), .recv (Z 1), .send (Y 9), .recv (Y 2), .send (Z 8), .recv (Y 3), .send (Z 9),
   .sent (X 0), .sent (X 1), .sent (X 2), .sent (X 3), .sent (X 4), .sent (X 5), .sent (X 6), .sent (X 7),
   .sent (X 8), .recv (X 8), .sent (X 9), .recv (X 9), .sent (X 10), .recv (X 10), .sent (X 11), .recv (X 11),
   .sent (Y 0), .recv (Y 0), .sent (Z 0), .sent (Y 1), .recv (Y 1), .sent (Z 1), .sent (Y 2), .sent (Z 2), .recv (Z 2), .sent (Y 3), .sent (Z 3), .recv (Z 3),
   .sent (Y 4), .recv (Y 4), .sent (Z 4), .recv (Z 4), .sent (Y 5), .recv (Y 5), .sent (Z 5), .recv (Z 5),
   .sent (Y 6), .recv (Y 6), .sent (Z 6), .recv (Z 6), .sent (Y 7), .recv (Y 7), .sent (Z 7), .recv (Z 7),
   .sent (Y 8), .recv (Y 8), .sent (Y 9), .recv (Y 9), .sent (Z 8), .recv (Z 8), .sent (Z 9), .recv (Z 9)]

/-- The body: the device's own number, the table entry it reads, and the steps. -/
def bodyProg : Prog (TpuEff nD τ sig (Elt F) Λ₀ .tc) PUnit := do
  let c : Dev nD ← Prog.lift .deviceId
  let v : Elt F .i32 ← smemLoad piM (Rect.unit (s := S2) (k0_off1 c) S1.size (k0_off1_inb c)) numel1_S1 rfl
  have hw : k0_chk1 c v := (← Prog.lift (TpuEff.assume (k0_chk1 c v) (k0_chk1.dec c v))).down
  progOf c v hw steps

set_option maxRecDepth 100000 in
set_option maxHeartbeats 4000000 in
theorem body_eq :
    cc0_body (F := F) xM (Memref.isWhole_whole _) piM (Memref.isWhole_whole _) oM (Memref.isWhole_whole _) stM (Memref.isWhole_whole _) cxM (Memref.isWhole_whole _)
      cc0_scratch2 cc0_scratch3 cc0_scratch4 cc0_scratch5 cc0_scratch6 cc0_scratch7 cc0_scratch8 = bodyProg := by
  rfl

end Cert.Exch
end
-- ==== Proof.Pieces.lean ====
/-
# What the pieces hold

The result of every device is cut into 32 pieces of 32 rows. This file gives the elements of a piece, of a staging slot and
of a piece of the send buffer, what each holds once it is filled, and that every copy of the kernel writes just that.
-/
module

public import proofs.«01_k».proof.Proof.Script
public import Idealize.ShloMosaic.Lib.ValueLayout
public import Idealize.ShloMosaic.Lib.Ring

@[expose] public section

noncomputable section

namespace Cert.Exch

open Cert.KernelIdeal Cert.KernelIdeal.Gen
open Idealize.ShloMosaic Idealize.ShloMosaic.TcCoe Idealize.SL.Sem
open Idealize.ShloMosaic.ValueIdx

variable {F : FTy → Type} [FloatOps F]

/-! ## Elements -/

theorem pcInb : ∀ (s : Fin 32) (a : Fin 3), (![0, 32 * s.val, 0] : Fin 3 → ℕ) a + S1x32x1024.size a ≤ S1x1024x1024.size a := by decide
abbrev pcRect (s : Fin 32) : Rect S1x1024x1024 := Rect.unit (s := S1x1024x1024) ![0, 32 * s.val, 0] S1x32x1024.size (pcInb s)

/-- The elements of piece `s` of an operand or a result; of a staging slot; of piece `k` of the send buffer. -/
def pc (s : Fin 32) : Finset S1x1024x1024.Idx := (pcRect s).set
def slotSet (i : Fin 2) : Finset S2x32x1024.Idx := (stRect i).set
def cxSet (k : Fin 12) : Finset S384x1024.Idx := (cxRect k).set

/-- The piece of the receiver's result that outgoing transfer `e` of device `c` fills. -/
abbrev toSub (c : Dev nD) (e : E) : Fin 32 := sub (peer (ax e) c) e

theorem dRect_eq (c : Dev nD) (e : E) : dRect c e = pcRect (toSub c e) := by
  have h := dOff_eq c e
  have key : ∀ (o : Fin 3 → ℕ) (hi : ∀ a, o a + S1x32x1024.size a ≤ S1x1024x1024.size a), o = ![0, 32 * (toSub c e).val, 0] →
      Rect.unit (s := S1x1024x1024) o S1x32x1024.size hi = pcRect (toSub c e) := by
    intro o hi ho; subst ho; rfl
  exact key _ _ h

theorem oP_set (c : Dev nD) (e : E) : (oP c e).view.set = pc (toSub c e) := by
  refine (View.set_reshape (View.slice (View.whole cc0_stg1_0) (dRect c e)) _).trans ?_
  rw [View.set_slice_whole, dRect_eq]; rfl
theorem xP_set (c : Dev nD) (e : E) : (xP c e).view.set = pc (toSub c e) := by
  refine (View.set_reshape (View.slice (View.whole main_arg0) (dRect c e)) _).trans ?_
  rw [View.set_slice_whole, dRect_eq]; rfl
theorem stP_set (i : Fin 2) : (stP i).view.set = slotSet i := by
  refine (View.set_reshape (View.slice (View.whole cc0_scratch0) (stRect i)) _).trans ?_
  rw [View.set_slice_whole]; rfl
theorem cxP_set (k : Fin 12) : (cxP k).view.set = cxSet k := by
  show (View.slice (View.whole cc0_scratch1) (cxRect k)).set = _
  rw [View.set_slice_whole]; rfl

theorem pc_disjoint (s s' : Fin 32) (h : s ≠ s') : Disjoint (pc s) (pc s') :=
  Ring.lead_disjoint (s := S1x1024x1024) 1 32 (fun s : Fin 32 => ![0, 32 * s.val, 0]) S1x32x1024.size pcInb (fun _ => rfl) rfl s s' h
theorem pc_cover : Finset.univ.biUnion pc = Finset.univ :=
  Ring.lead_cover (s := S1x1024x1024) 1 32 (fun s : Fin 32 => ![0, 32 * s.val, 0]) S1x32x1024.size pcInb (fun _ => rfl) (by decide) rfl (by decide) rfl
theorem slot_disjoint (s s' : Fin 2) (h : s ≠ s') : Disjoint (slotSet s) (slotSet s') :=
  Ring.lead_disjoint (s := S2x32x1024) 0 1 (fun s : Fin 2 => ![s.val, 0, 0]) S1x32x1024.size stInb (fun b => (Nat.one_mul _).symm) rfl s s' h
theorem slot_cover : Finset.univ.biUnion slotSet = Finset.univ :=
  Ring.lead_cover (s := S2x32x1024) 0 1 (fun s : Fin 2 => ![s.val, 0, 0]) S1x32x1024.size stInb (fun b => (Nat.one_mul _).symm) (by decide) rfl (by decide) rfl
theorem cx_disjoint (s s' : Fin 12) (h : s ≠ s') : Disjoint (cxSet s) (cxSet s') :=
  Ring.lead_disjoint (s := S384x1024) 0 32 (fun s : Fin 12 => ![32 * s.val, 0]) S32x1024.size cxInb (fun _ => rfl) rfl s s' h
theorem cx_cover : Finset.univ.biUnion cxSet = Finset.univ :=
  Ring.lead_cover (s := S384x1024) 0 32 (fun s : Fin 12 => ![32 * s.val, 0]) S32x1024.size cxInb (fun _ => rfl) (by decide) rfl (by decide) rfl

/-! ## Contents -/

section
variable (x : Dev nD → S1x1024x1024.Idx → Elt F .bf16)

theorem row_lt (s : Fin 32) (r : ℕ) (h : r < 32) : 32 * s.val + r < 1024 := by have := s.isLt; omega

/-- Rows `32 s …` of device `d`'s operand. -/
def rows (d : Dev nD) (s : Fin 32) : S32x1024.Idx → Elt F .bf16 :=
  fun j => x d (ix3 (0 : Fin 1) (⟨32 * s.val + (j 0).val, row_lt s _ (j 0).isLt⟩ : Fin 1024) (j 1 : Fin 1024))
/-- The result: every piece's rows of the operand it comes from. -/
def outV (c : Dev nD) : S1x1024x1024.Idx → Elt F .bf16 :=
  fun i => x (orig c ⟨(i 1).val / 32, by have : (i 1).val < 1024 := (i 1).isLt; omega⟩) i
/-- A staging slot filled by local copy `k`. -/
def stV (c : Dev nD) (k : Fin 12) : S2x32x1024.Idx → Elt F .bf16 :=
  fun i => rows x c (toSub c (.inl k)) (ix2 (i 1 : Fin 32) (i 2 : Fin 1024))
/-- The send buffer, filled. -/
def cxV (c : Dev nD) : S384x1024.Idx → Elt F .bf16 :=
  fun i => rows x c (toSub c (.inl ⟨(i 0).val / 32, by have : (i 0).val < 384 := (i 0).isLt; omega⟩))
    (ix2 (⟨(i 0).val % 32, Nat.mod_lt _ (by decide)⟩ : Fin 32) (i 1 : Fin 1024))

/-- Where an index of a piece lies in its buffer. -/
theorem pc_at (s : Fin 32) (h : S32x1024.numel = (pcRect s).shape.numel) (a : Fin 32) (b : Fin 1024) :
    (pcRect s).emb (Shape.reshapeEquiv h (ix2 a b)) = ix3 (0 : Fin 1) (⟨32 * s.val + a.val, row_lt s _ a.isLt⟩ : Fin 1024) b := by
  rw [show Shape.reshapeEquiv h (ix2 a b) = ix3 (⟨0, Nat.one_pos⟩ : Fin 1) a b from reshapeEquiv_ix2_1ab h a b]
  funext i; apply Fin.ext
  rw [Rect.emb_apply]
  fin_cases i <;> simp [Rect.unit]
theorem st_at (i : Fin 2) (h : S32x1024.numel = (stRect i).shape.numel) (a : Fin 32) (b : Fin 1024) :
    (stRect i).emb (Shape.reshapeEquiv h (ix2 a b)) = ix3 i a b := by
  rw [show Shape.reshapeEquiv h (ix2 a b) = ix3 (⟨0, Nat.one_pos⟩ : Fin 1) a b from reshapeEquiv_ix2_1ab h a b]
  funext i; apply Fin.ext
  rw [Rect.emb_apply]
  fin_cases i <;> simp [Rect.unit]
theorem cx_at (k : Fin 12) (a : Fin 32) (b : Fin 1024) :
    (cxRect k).emb (ix2 a b) = ix2 (⟨32 * k.val + a.val, by have := k.isLt; have := a.isLt; omega⟩ : Fin 384) b := by
  funext i; apply Fin.ext
  rw [Rect.emb_apply]
  fin_cases i <;> simp [Rect.unit]

/-! ## What the pieces read -/

theorem read_xP (c : Dev nD) (e : E) : (xP c e).view.read (Elt F) (x c) = rows x c (toSub c e) := by
  funext j; obtain ⟨a, b, rfl⟩ : ∃ (a : Fin 32) (b : Fin 1024), j = ix2 a b := ⟨_, _, eq_ix2 j⟩
  have key : ∀ r : Rect S1x1024x1024, r = pcRect (toSub c e) → ∀ h : S32x1024.numel = r.shape.numel,
      x c (r.emb (Shape.reshapeEquiv h (ix2 a b))) = rows x c (toSub c e) (ix2 a b) := by
    intro r hr h; subst hr; rw [pc_at]; rfl
  exact key _ (dRect_eq c e) _
theorem read_oP (c d : Dev nD) (e : E) : (oP c e).view.read (Elt F) (outV x d) = rows x (orig d (toSub c e)) (toSub c e) := by
  funext j; obtain ⟨a, b, rfl⟩ : ∃ (a : Fin 32) (b : Fin 1024), j = ix2 a b := ⟨_, _, eq_ix2 j⟩
  have key : ∀ r : Rect S1x1024x1024, r = pcRect (toSub c e) → ∀ h : S32x1024.numel = r.shape.numel,
      outV x d (r.emb (Shape.reshapeEquiv h (ix2 a b))) = rows x (orig d (toSub c e)) (toSub c e) (ix2 a b) := by
    intro r hr h; subst hr; rw [pc_at]
    have hq : (⟨(32 * (toSub c e).val + a.val) / 32, by have := (toSub c e).isLt; have := a.isLt; omega⟩ : Fin 32) = toSub c e :=
      Fin.ext (by show (32 * (toSub c e).val + a.val) / 32 = _; have := a.isLt; omega)
    show x (orig d ⟨(32 * (toSub c e).val + a.val) / 32, _⟩) _ = _
    rw [hq]; rfl
  exact key _ (dRect_eq c e) _
theorem read_stP (c : Dev nD) (k : Fin 12) (i : Fin 2) : (stP i).view.read (Elt F) (stV x c k) = rows x c (toSub c (.inl k)) := by
  funext j; obtain ⟨a, b, rfl⟩ : ∃ (a : Fin 32) (b : Fin 1024), j = ix2 a b := ⟨_, _, eq_ix2 j⟩
  show stV x c k ((stRect i).emb (Shape.reshapeEquiv _ (ix2 a b))) = _
  rw [st_at]; rfl
theorem read_cxP (c : Dev nD) (k : Fin 12) : (cxP k).view.read (Elt F) (cxV x c) = rows x c (toSub c (.inl k)) := by
  funext j; obtain ⟨a, b, rfl⟩ : ∃ (a : Fin 32) (b : Fin 1024), j = ix2 a b := ⟨_, _, eq_ix2 j⟩
  show cxV x c ((cxRect k).emb (ix2 a b)) = _
  rw [cx_at]
  have hq : (⟨(32 * k.val + a.val) / 32, by have := k.isLt; have := a.isLt; omega⟩ : Fin 12) = k := Fin.ext (by show (32 * k.val + a.val) / 32 = _; have := a.isLt; omega)
  have hr : (⟨(32 * k.val + a.val) % 32, Nat.mod_lt _ (by decide)⟩ : Fin 32) = a := Fin.ext (by show (32 * k.val + a.val) % 32 = _; have := a.isLt; omega)
  show rows x c (toSub c (.inl ⟨(32 * k.val + a.val) / 32, _⟩)) (ix2 ⟨(32 * k.val + a.val) % 32, _⟩ b) = _
  rw [hq, hr]

/-- What the store into the send buffer stores: the rows the staging slot holds. -/
theorem pay_eq (c : Dev nD) (k : Fin 12) (i : Fin 2) :
    k0_pay1 (stM.view.readAt (Elt F) (stRect i).toLoadRect (stV x c k)) = rows x c (toSub c (.inl k)) := by
  unfold k0_pay1
  refine (shapeCast_self _ shapeCasts_S32x1024_S32x1024).trans ?_
  exact (Memref.read_squeeze_slice stM (stRect i) (fun _ => rfl) squeezes_S1x32x1024_S32x1024 shapeCasts_S1x32x1024_S32x1024 (stV x c k)).symm.trans (read_stP x c k i)

/-! ## What each copy writes -/

omit [FloatOps F] in
/-- Contents that read the same through the view agree with a write of that reading. -/
theorem write_on {κ : Kind} {sp : Space} {s : Shape} {e : EltTy} (w : View sig κ sp s e) (f g : w.ty.Contents (Elt F)) (u : s.Idx → Elt F e)
    (h : w.read (Elt F) g = u) : ∀ i ∈ w.set, w.write (Elt F) f u Finset.univ i = g i := by
  intro i hi
  rw [← h, View.write_read_eq_piecewise]
  exact Finset.piecewise_eq_of_mem _ _ _ hi

theorem fetch_writes (c : Dev nD) (k : Fin 12) (i : Fin 2) (fd) :
    ∀ j ∈ (stP i).view.set, (stP i).view.write (Elt F) fd ((xP c (.inl k)).view.read (Elt F) (x c)) Finset.univ j = stV x c k j :=
  write_on _ _ _ _ ((read_stP x c k i).trans (read_xP x c (.inl k)).symm)
theorem stash_writes (c : Dev nD) (k : Fin 12) (i : Fin 2) (fd) :
    ∀ j ∈ (cxP k).view.set, (cxP k).view.write (Elt F) fd (k0_pay1 (stM.view.readAt (Elt F) (stRect i).toLoadRect (stV x c k))) Finset.univ j = cxV x c j :=
  write_on _ _ _ _ ((read_cxP x c k).trans (pay_eq x c k i).symm)
theorem first_writes (c : Dev nD) (k : Fin 12) (fd) :
    ∀ j ∈ (oP c (.inl k)).view.set, (oP c (.inl k)).view.write (Elt F) fd ((cxP k).view.read (Elt F) (cxV x c)) Finset.univ j = outV x (peer 0 c) j :=
  write_on _ _ _ _ ((read_oP x c (peer 0 c) (.inl k)).trans (by
    rw [read_cxP, show orig (peer 0 c) (toSub c (.inl k)) = c from orig_first c k]))
theorem forward_writes (c : Dev nD) (e e' : E) (h : src e = some e') (fd) :
    ∀ j ∈ (oP c e).view.set, (oP c e).view.write (Elt F) fd ((oP c e).view.read (Elt F) (outV x c)) Finset.univ j = outV x (peer (ax e) c) j :=
  write_on _ _ _ _ ((read_oP x c (peer (ax e) c) e).trans (by
    rw [read_oP, show toSub c e = sub c e' from sub_src c e e' h, orig_src c e e' h]))

/-! ## Credits -/

/-- The credit of one piece, the same for all of them. -/
def N : ℕ := (stP 0).view.dmaCredit
theorem N_pos : 0 < N := View.dmaCredit_pos _ (by decide)
theorem credit_stP (i : Fin 2) : (stP i).view.dmaCredit = N := rfl
theorem credit_oP (c : Dev nD) (e : E) : (oP c e).view.dmaCredit = N := rfl
theorem credit_cxP (k : Fin 12) : (cxP k).view.dmaCredit = N := rfl

end
end Cert.Exch
end
-- ==== Proof.Sched.lean ====
/-
# The schedule of the exchange

Each device has 67 semaphores of the exchange: the barrier, two for its local copies, one for each outgoing and one for each
incoming transfer. This file says what is handed over through each: the local copies give back the filled slot and the operand's
rows; an outgoing transfer gives back what it was read from; an incoming one gives the filled piece of the result; a barrier
signal gives the pieces of the signalling device's result that may now be written. Then what each device owes, and the levels
that keep the waits in order.
-/
module

public import proofs.«01_k».proof.Proof.Pieces

@[expose] public section

noncomputable section

namespace Cert.Exch

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UX : Type := URounds (GSem nD τ sig) (Fin 3)
abbrev UU : Type := UR sig nD τ × UX

local notation "𝕄" => MT nD τ sig Unit (Elt F) ℕ UU ℕ

abbrev EP : Emb (UR sig nD τ) (MT nD τ sig Unit (Elt F) ℕ UU ℕ) := embL
abbrev ER : Emb UX (MT nD τ sig Unit (Elt F) ℕ UU ℕ) := embR

/-! ## The cells -/

/-- The scoped semaphores of the exchange: local copies, outgoing, incoming. -/
abbrev OC : Type := Fin 2 ⊕ (E ⊕ E)
/-- With the barrier. -/
abbrev CN : Type := Unit ⊕ OC

instance : DecidableEq E := inferInstance
instance : DecidableEq OC := instDecidableEqSum
instance : DecidableEq CN := instDecidableEqSum

abbrev kBar : CN := .inl ()
abbrev kCp (i : Fin 2) : CN := .inr (.inl i)
abbrev kSnd (e : E) : CN := .inr (.inr (.inl e))
abbrev kRcv (e : E) : CN := .inr (.inr (.inr e))

def osem : OC → SemLoc sig
  | .inl i => .dma (cpS i)
  | .inr (.inl e) => .dma (sndS e)
  | .inr (.inr e) => .dma (rcvS e)
def csem : CN → SemLoc sig
  | .inl _ => .reg barS
  | .inr k => osem k

set_option maxRecDepth 100000 in
theorem ownSemFacts : Pipeline.OwnSemFacts (sig := sig) (cfgs (0 : Fin 1)).spec osem := by decide +kernel

theorem csem_injective : Function.Injective csem := by
  rintro (⟨⟩ | k) (⟨⟩ | k') h
  · rfl
  · exact absurd h.symm (by rcases k' with i | e | e <;> exact fun h => by cases h)
  · exact absurd h (by rcases k with i | e | e <;> exact fun h => by cases h)
  · exact congrArg Sum.inr (ownSemFacts.inj h)

abbrev cell (c : Dev nD) (k : CN) : GSem nD τ sig := ((c : Thread nD τ), csem k)

theorem cell_inj {c c' : Dev nD} {k k' : CN} (h : cell c k = cell c' k') : c = c' ∧ k = k' :=
  ⟨congrArg (fun g : GSem nD τ sig => g.1.1) h, csem_injective (congrArg Prod.snd h)⟩

/-- Which semaphore of the exchange, if any. -/
def role : SemLoc sig → Option CN := Function.partialInv csem
theorem role_csem (k : CN) : role (csem k) = some k := Function.partialInv_left csem_injective k
theorem role_none {s : SemLoc sig} (h : ∀ k, csem k ≠ s) : role s = none := by
  classical
  unfold role Function.partialInv
  exact dif_neg fun ⟨k, hk⟩ => h k hk

/-! ## Points-tos -/

def oPts (c : Dev nD) (s : Fin 32) (q : PosShare TreeShare) (f : S1x1024x1024.Idx → Elt F .bf16) : sProp 𝕄 :=
  (((c : Thread nD τ).loc cc0_stg1_0) ↦[pc s]{q} f)
def xPts (c : Dev nD) (s : Fin 32) (f : S1x1024x1024.Idx → Elt F .bf16) : sProp 𝕄 :=
  (((c : Thread nD τ).loc main_arg0) ↦[pc s]{fullShare} f)
def stPts (c : Dev nD) (i : Fin 2) (f : S2x32x1024.Idx → Elt F .bf16) : sProp 𝕄 :=
  (((c : Thread nD τ).loc cc0_scratch0) ↦[slotSet i]{fullShare} f)
def cxPts (c : Dev nD) (k : Fin 12) (f : S384x1024.Idx → Elt F .bf16) : sProp 𝕄 :=
  (((c : Thread nD τ).loc cc0_scratch1) ↦[cxSet k]{fullShare} f)

section Storable
omit [FloatOps F]
instance oPts_storable (c s q f) : BI.Storable (upEmb : UEmb _ 𝕄) (oPts (F := F) c s q f) := by unfold oPts; infer_instance
instance xPts_storable (c s f) : BI.Storable (upEmb : UEmb _ 𝕄) (xPts (F := F) c s f) := by unfold xPts; infer_instance
instance stPts_storable (c i f) : BI.Storable (upEmb : UEmb _ 𝕄) (stPts (F := F) c i f) := by unfold stPts; infer_instance
instance cxPts_storable (c k f) : BI.Storable (upEmb : UEmb _ 𝕄) (cxPts (F := F) c k f) := by unfold cxPts; infer_instance
end Storable

/-! ## What is handed over -/

/-- The local copy that round `r` of slot `i`'s semaphore counts. -/
def copyNo (i : Fin 2) (r : ℕ) : Fin 12 := ⟨(2 * r + i.val) % 12, Nat.mod_lt _ (by decide)⟩
theorem copyNo_self : ∀ k : Fin 12, copyNo (slot k) (k.val / 2) = k := by decide

/-- The transfers along an axis. -/
def axE (a : Ax) : Finset E := Finset.univ.filter fun e => ax e = a

section
variable (x : Dev nD → S1x1024x1024.Idx → Elt F .bf16)

/-- A signal along axis `a` hands `c` the pieces of its neighbour's result that `c` fills. -/
def barPay (c : Dev nD) (a : Ax) : sProp 𝕄 := bigSep (axE a) fun e => iprop(∃ f, oPts (peer a c) (sub (peer a c) e) fullShare f)
def cpPay (c : Dev nD) (k : Fin 12) : sProp 𝕄 := iprop(stPts c (slot k) (stV x c k) ∗ xPts c (toSub c (.inl k)) (x c))
/-- The share of a piece a forwarding transfer reads: one half along each of the two axes. -/
def half (b : Bool) : PosShare TreeShare := if b then fullShare.right else fullShare.left
def sndPay (c : Dev nD) : E → sProp 𝕄
  | .inl k => cxPts c k (cxV x c)
  | .inr (b, k) => oPts c (toSub c (.inr (b, k))) (half b) (outV x c)
def rcvPay (c : Dev nD) (e : E) : sProp 𝕄 := oPts c (sub c e) fullShare (outV x c)

def dutiesOf : Option CN → ℕ → Finset (Fin 3)
  | some (.inl _), r => if r = 0 then Finset.univ else ∅
  | some (.inr (.inl _)), r => if r < 6 then {0} else ∅
  | some (.inr (.inr _)), r => if r = 0 then {0} else ∅
  | none, _ => ∅
def amountFor : Option CN → ℕ
  | some (.inl _) => 1
  | _ => N
def payOf (c : Dev nD) : Option CN → ℕ → Fin 3 → sProp 𝕄
  | some (.inl _), _, d => barPay c d
  | some (.inr (.inl i)), r, _ => cpPay x c (copyNo i r)
  | some (.inr (.inr (.inl e))), _, _ => sndPay x c e
  | some (.inr (.inr (.inr e))), _, _ => rcvPay x c e
  | none, _, _ => iprop(emp)

def Rd : Rounds.Schedule (GSem nD τ sig) (Fin 3) 𝕄 where
  duties g r := if g.1.2 = .tc then dutiesOf (role g.2) r else ∅
  unitless _ := False
  amount g _ _ := amountFor (role g.2)
  payload g r d := payOf x g.1.1 (role g.2) r d
  amount_pos g _ _ _ := by
    show 0 < amountFor (role g.2)
    match role g.2 with
    | some (.inl _) => exact Nat.one_pos
    | some (.inr _) => exact N_pos
    | none => exact N_pos

instance sndPay_storable (c : Dev nD) (e : E) : BI.Storable (upEmb : UEmb _ 𝕄) (sndPay x c e) := by
  match e with
  | .inl k => unfold sndPay; infer_instance
  | .inr (b, k) => unfold sndPay; infer_instance

instance Rd_storable (g : GSem nD τ sig) (r : ℕ) (d : Fin 3) : BI.Storable (upEmb : UEmb _ 𝕄) ((Rd x).payload g r d) := by
  show BI.Storable upEmb (payOf x g.1.1 (role g.2) r d)
  match role g.2 with
  | some (.inl _) => unfold payOf barPay; infer_instance
  | some (.inr (.inl i)) => unfold payOf cpPay; infer_instance
  | some (.inr (.inr (.inl e))) => unfold payOf; infer_instance
  | some (.inr (.inr (.inr e))) => unfold payOf rcvPay; infer_instance
  | none => unfold payOf; infer_instance

theorem duties_cell (c : Dev nD) (k : CN) (r : ℕ) : (Rd x).duties (cell c k) r = dutiesOf (some k) r := by
  have h : (Rd x).duties (cell c k) r = if (cell c k).1.2 = .tc then dutiesOf (role (csem k)) r else ∅ := rfl
  rw [h, if_pos rfl, role_csem]
theorem amount_cell (c : Dev nD) (k : CN) (r : ℕ) (d : Fin 3) : (Rd x).amount (cell c k) r d = amountFor (some k) := by
  show amountFor (role (csem k)) = _; rw [role_csem]
theorem payload_cell (c : Dev nD) (k : CN) (r : ℕ) (d : Fin 3) : (Rd x).payload (cell c k) r d = payOf x c (some k) r d := by
  show payOf x c (role (csem k)) r d = _; rw [role_csem]

/-- A cell of one duty in the round: it expects one piece's credit, and hands over that duty's payload. -/
theorem expect_one (c : Dev nD) (k : CN) (r : ℕ) (h : dutiesOf (some k) r = {0}) : (Rd x).expect (cell c k) r = amountFor (some k) := by
  unfold Schedule.expect Schedule.amountOf; rw [duties_cell, h, Finset.sum_singleton, amount_cell]
theorem rest_one (c : Dev nD) (k : CN) (r : ℕ) (h : dutiesOf (some k) r = {0}) :
    bigSep ((Rd x).duties (cell c k) r \ ∅) (fun d => (Rd x).payload (cell c k) r d) = payOf x c (some k) r 0 := by
  rw [Finset.sdiff_empty, duties_cell, h, bigSep_singleton, payload_cell]
theorem expect_bar (c : Dev nD) : (Rd x).expect (cell c kBar) 0 = 3 := by
  unfold Schedule.expect Schedule.amountOf
  rw [duties_cell, Finset.sum_congr rfl fun d _ => amount_cell x c kBar 0 d]; rfl
theorem rest_bar (c : Dev nD) :
    bigSep ((Rd x).duties (cell c kBar) 0 \ ∅) (fun d => (Rd x).payload (cell c kBar) 0 d) = bigSep Finset.univ (barPay c) := by
  rw [Finset.sdiff_empty, duties_cell]; exact bigSep_congr fun d _ => payload_cell x c kBar 0 d

/-- The round after a cell's last. -/
def lastOf : CN → ℕ
  | .inr (.inl _) => 6
  | _ => 1
theorem duties_later (c : Dev nD) (k : CN) (r : ℕ) (h : lastOf k ≤ r) : (Rd x).duties (cell c k) r = ∅ := by
  rw [duties_cell]
  match k, h with
  | .inl _, h => exact if_neg (by have : 1 ≤ r := h; omega)
  | .inr (.inl _), h => exact if_neg (by have : 6 ≤ r := h; omega)
  | .inr (.inr _), h => exact if_neg (by have : 1 ≤ r := h; omega)

end

/-! ## What is owed -/

/-- What a device pays others: a signal along each axis, and each transfer's landing. -/
abbrev Pay : Type := Ax ⊕ E

def payTo (c : Dev nD) : Pay → Dev nD
  | .inl a => peer a c
  | .inr e => peer (ax e) c
def payKey : Pay → CN
  | .inl _ => kBar
  | .inr e => kRcv e
def payAmt (p : Pay) : ℕ := amountFor (some (payKey p))

abbrev tally (c : Dev nD) (p : Pay) : CellTallies nD τ sig Unit := tallyAt (cell (payTo c p) (payKey p)) () (payAmt p)

def owed (c : Dev nD) : List Pay → CellTallies nD τ sig Unit
  | [] => 0
  | p :: l => owed c l + tally c p

def L (g : GSem nD τ sig) : Finset Unit := if g.1.2 = .tc then {()} else ∅
theorem L_of_ne (g : GSem nD τ sig) (h : g.1.2 ≠ .tc) : L g = ∅ := if_neg h
theorem L_tc (c : Dev nD) (sm : SemLoc sig) : L ((c : Thread nD τ), sm) = {()} := if_pos rfl

/-- The level of a cell: a wait is for a lower level than all that is still owed. -/
def lvOf : CN → ℕ
  | .inl _ => 1
  | .inr (.inr (.inr (.inl _))) => 2
  | .inr (.inr (.inr (.inr (_, k)))) => if k.val < 8 then 3 else 4
  | _ => 0
def lv (g : GSem nD τ sig) (_ : Unit) : ℕ := match role g.2 with | some k => lvOf k | none => 0
theorem lv_cell (c : Dev nD) (k : CN) (u : Unit) : lv (cell c k) u = lvOf k := by
  show (match role (csem k) with | some k => lvOf k | none => 0) = _; rw [role_csem]

theorem owed_pos {c : Dev nD} : ∀ {l : List Pay} {g : GSem nD τ sig} {u : Unit}, 0 < owed c l g u → ∃ p ∈ l, g = cell (payTo c p) (payKey p)
  | [], g, u, h => absurd h (Nat.lt_irrefl 0)
  | p :: l, g, u, h => by
    unfold owed at h
    rw [Pi.add_apply, Finsupp.add_apply, tallyAt_apply] at h
    by_cases hg : g = cell (payTo c p) (payKey p) ∧ u = ()
    · exact ⟨p, List.mem_cons_self, hg.1⟩
    · rw [if_neg hg, Nat.add_zero] at h
      obtain ⟨p', hp', h'⟩ := owed_pos h
      exact ⟨p', List.mem_cons_of_mem _ hp', h'⟩

/-- A device may wait on a cell of its own below everything it still owes. -/
theorem mayWait_at (c : Dev nD) (sm : SemLoc sig) (n : ℕ) (hn : lv ((c : Thread nD τ), sm) () = n) (l : List Pay) (h : ∀ p ∈ l, n < lvOf (payKey p)) :
    (levAts L lv : sProp 𝕄) ⊢ MayWait (c : Thread nD τ) sm () (owed c l) :=
  MayOwe.of_cut (L := L) (lev := lv) n (fun p hp => by rw [Finset.mem_singleton.mp hp, L_tc]; exact Finset.mem_singleton_self _)
    (fun g u hg => by obtain ⟨p, -, rfl⟩ := owed_pos hg; rw [L_tc]; exact Finset.mem_singleton_self _)
    (fun p hp => by rw [Finset.mem_singleton.mp hp]; exact hn.le)
    (fun g u hg => by obtain ⟨p, hp, rfl⟩ := owed_pos hg; rw [lv_cell]; exact h p hp)

end Cert.Exch
end
-- ==== Proof.Res.lean ====
/-
# The resources a device holds, by name, and what each step does with them

A device's share of the exchange is a list of named resources. Each step of the body takes some names off the list and puts
others on it, and each signal or transfer also settles the next thing the device owes. `exec` plays the list of steps on names
alone.
-/
module

public import proofs.«01_k».proof.Proof.Sched
public import Idealize.ShloMosaic.Lib.Pipeline.BigSepL

@[expose] public section

noncomputable section

namespace Cert.Exch

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The names. -/
inductive R
  /-- the operand's rows that local copy `k` reads -/
  | xp (k : Fin 12)
  /-- a staging slot at any contents; the slot of copy `k`, filled -/
  | stE (i : Fin 2) | stF (k : Fin 12)
  /-- piece `k` of the send buffer, at any contents; filled -/
  | cxE (k : Fin 12) | cxF (k : Fin 12)
  /-- local copy `k`: its duty, its credit; where the slot's semaphore stands -/
  | ct (k : Fin 12) | cf (k : Fin 12) | cq (i : Fin 2) (r : Fin 7)
  /-- the piece of the neighbour's result that transfer `e` fills; the two duties of the transfer -/
  | there (e : E) | tk (e : E)
  /-- the credits, and the two semaphores open or done -/
  | crS (e : E) | crR (e : E) | qS (e : E) | qR (e : E) | dS (e : E) | dR (e : E)
  /-- the two halves of a filled piece of the own result -/
  | outL (e : E) | outR (e : E)
  /-- a piece of the own result at any contents -/
  | mine (e : E)
  /-- the barrier: its credit, open, done; the duty of the signal along an axis -/
  | bc | bq | bd | bt (a : Ax)
deriving DecidableEq

/-! ## On names alone -/

/-- All transfers, and those along an axis, listed. -/
def es0 : List E := (List.finRange 12).map .inl
def es1 (b : Bool) : List E := (List.finRange 10).map fun k => .inr (b, k)
def axL : Ax → List E := ![es0, es1 false, es1 true]
def esAll : List E := axL 0 ++ (axL 1 ++ axL 2)

theorem axL_set : ∀ a, axE a = (axL a).toFinset := by decide +kernel
theorem axL_nodup : ∀ a, (axL a).Nodup := by decide +kernel
theorem axL_ax : ∀ a, ∀ e ∈ axL a, ax e = a := by decide +kernel
theorem esAll_nodup : esAll.Nodup := by decide +kernel
theorem esAll_univ : (Finset.univ : Finset E) = esAll.toFinset := by decide +kernel

/-- The operands of transfer `e`. -/
def srcR : E → R
  | .inl k => .cxF k
  | .inr (b, k) => match src (.inr (b, k)) with
    | some e' => if b then .outR e' else .outL e'
    | none => .bd

/-- What a step takes, what it gives, what it settles, and the level its wait is at. -/
def need : Step → List R
  | .sig a => .bt a :: (axL a).map .mine
  | .fetch k => [.xp k, .stE (slot k), .ct k, .cq (slot k) ⟨k.val / 2, by omega⟩]
  | .land k => [.cf k, .cq (slot k) ⟨k.val / 2, by omega⟩]
  | .stash k => [.stF k, .cxE k]
  | .bar => [.bc, .bq]
  | .send e => [.tk e, .there e, srcR e]
  | .sent e => [.crS e, .qS e]
  | .recv e => [.crR e, .qR e]
def give : Step → List R
  | .sig a => []
  | .fetch k => [.cf k, .cq (slot k) ⟨k.val / 2, by omega⟩]
  | .land k => [.stF k, .xp k, .cq (slot k) ⟨k.val / 2 + 1, by omega⟩]
  | .stash k => [.stE (slot k), .cxF k]
  | .bar => .bd :: esAll.map .there
  | .send e => [.crS e]
  | .sent e => [.dS e, srcR e]
  | .recv e => [.dR e, .outL e, .outR e]
def pays : Step → List Pay
  | .sig a => [.inl a]
  | .send e => [.inr e]
  | _ => []
def waits : Step → Option CN
  | .land k => some (kCp (slot k))
  | .bar => some kBar
  | .sent e => some (kSnd e)
  | .recv e => some (kRcv e)
  | _ => none

/-- Take the names `need` off a list. -/
def takeAll : List R → List R → Option (List R)
  | [], l => some l
  | r :: rs, l => if r ∈ l then takeAll rs (l.erase r) else none
/-- Take the payments off the front of what is owed. -/
def payAll : List Pay → List Pay → Option (List Pay)
  | [], l => some l
  | p :: ps, q :: l => if p = q then payAll ps l else none
  | _ :: _, [] => none
/-- A wait at the level of `k` is below all that is owed. -/
def above (l : List Pay) : Option CN → Bool
  | none => true
  | some k => l.all fun p => decide (lvOf k < lvOf (payKey p))

def exec1 (s : Step) (l : List R) (o : List Pay) : Option (List R × List Pay) :=
  match takeAll (need s) l, payAll (pays s) o with
  | some l', some o' => if above o' (waits s) then some (give s ++ l', o') else none
  | _, _ => none
def exec : List Step → List R → List Pay → Option (List R × List Pay)
  | [], l, o => some (l, o)
  | s :: ss, l, o => match exec1 s l o with
    | some (l', o') => exec ss l' o'
    | none => none

/-! ## The resources -/

section
variable (x : Dev nD → S1x1024x1024.Idx → Elt F .bf16) (c : Dev nD)

def P : R → sProp 𝕄
  | .xp k => xPts c (toSub c (.inl k)) (x c)
  | .stE i => iprop(∃ f, stPts c i f)
  | .stF k => stPts c (slot k) (stV x c k)
  | .cxE k => iprop(∃ f, cxPts c k f)
  | .cxF k => cxPts c k (cxV x c)
  | .ct k => dutyTok ER (cell c (kCp (slot k))) (k.val / 2) 0
  | .cf k => cred (tallyAt (cell c (kCp (slot k))) () N)
  | .cq i r => iprop(atPos ER (cell c (kCp i)) r.val ∅ 0 ∗ reached ER (cell c (kCp i)) r.val)
  | .there e => iprop(∃ f, oPts (peer (ax e) c) (toSub c e) fullShare f)
  | .tk e => iprop(dutyTok ER (cell c (kSnd e)) 0 0 ∗ dutyTok ER (cell (peer (ax e) c) (kRcv e)) 0 0)
  | .crS e => cred (tallyAt (cell c (kSnd e)) () N)
  | .crR e => cred (tallyAt (cell c (kRcv e)) () N)
  | .qS e => atPos ER (cell c (kSnd e)) 0 ∅ 0
  | .qR e => atPos ER (cell c (kRcv e)) 0 ∅ 0
  | .dS e => atPos ER (cell c (kSnd e)) 1 ∅ 0
  | .dR e => atPos ER (cell c (kRcv e)) 1 ∅ 0
  | .outL e => oPts c (sub c e) fullShare.left (outV x c)
  | .outR e => oPts c (sub c e) fullShare.right (outV x c)
  | .mine e => iprop(∃ f, oPts c (sub c e) fullShare f)
  | .bc => cred (tallyAt (cell c kBar) () 3)
  | .bq => atPos ER (cell c kBar) 0 ∅ 0
  | .bd => atPos ER (cell c kBar) 1 ∅ 0
  | .bt a => dutyTok ER (cell (peer a c) kBar) 0 a

/-- The lasting facts: every cell's invariant, that every cell has reached round 0, the levels. -/
def records (K : Dev nD × CN → ℕ) : sProp 𝕄 :=
  iprop(((bigSep Finset.univ fun ck : Dev nD × CN => cellInv ER (Rd x) (K ck) (cell ck.1 ck.2))
    ∗ bigSep Finset.univ fun ck : Dev nD × CN => reached ER (cell ck.1 ck.2) 0) ∗ levAts L lv)
instance records_persistent (K : Dev nD × CN → ℕ) : BI.Persistent (records x K) := by unfold records; infer_instance

theorem invs_elim (K : Dev nD × CN → ℕ) (d : Dev nD) (k : CN) :
    (bigSep Finset.univ fun ck : Dev nD × CN => (cellInv ER (Rd x) (K ck) (cell ck.1 ck.2) : sProp 𝕄)) ⊢ cellInv ER (Rd x) (K (d, k)) (cell d k) :=
  bigSep_elim (Finset.mem_univ (d, k))
omit [FloatOps F] in
theorem reach_elim (d : Dev nD) (k : CN) :
    (bigSep Finset.univ fun ck : Dev nD × CN => (reached ER (cell ck.1 ck.2) 0 : sProp 𝕄)) ⊢ reached ER (cell d k) 0 :=
  bigSep_elim (Finset.mem_univ (d, k))
theorem inv_at (K : Dev nD × CN → ℕ) (d : Dev nD) (k : CN) : records x K ⊢ cellInv ER (Rd x) (K (d, k)) (cell d k) := by
  unfold records; iintro ⟨⟨HI, -⟩, -⟩
  iapply (invs_elim x K d k); iexact HI
theorem reached_at (K : Dev nD × CN → ℕ) (d : Dev nD) (k : CN) : records x K ⊢ reached ER (cell d k) 0 := by
  unfold records; iintro ⟨⟨-, HR⟩, -⟩
  iapply (reach_elim d k); iexact HR
theorem lev_at (K : Dev nD × CN → ℕ) : records x K ⊢ levAts L lv := by
  unfold records; iintro ⟨-, HL⟩; iexact HL

/-- What the device owes, its waits so far of no account. -/
def owing (c : Dev nD) (o : List Pay) : sProp 𝕄 := iprop(∃ W, owes (c : Thread nD τ) (owed c o) W)

/-! ## Taking names off a list -/

omit [FloatOps F] in
theorem swap_sep (A B C : sProp 𝕄) : iprop(A ∗ B ∗ C) ⊢ iprop(B ∗ A ∗ C) := by
  iintro ⟨H1, H2, H3⟩
  isplitl [H2]; · iexact H2
  isplitl [H1] <;> iassumption

omit [FloatOps F] in
theorem take_sep (Φ : R → sProp 𝕄) : ∀ (rs l l' : List R), takeAll rs l = some l' → bigSepL l Φ = iprop(bigSepL rs Φ ∗ bigSepL l' Φ)
  | [], l, l', h => by
    obtain rfl : l = l' := Option.some.inj h
    exact (equiv_iff.mp emp_sep).symm
  | r :: rs, l, l', h => by
    unfold takeAll at h
    split at h
    · rename_i hm
      have ih := take_sep Φ rs _ _ h
      have hp : bigSepL l Φ = bigSepL (r :: l.erase r) Φ := perm_sep Φ (List.perm_cons_erase hm)
      rw [hp, bigSepL_cons', bigSepL_cons', ih]
      exact sep_assoc'.antisymm sep_assoc
    · exact absurd h (by simp)
where
  perm_sep (Φ : R → sProp 𝕄) {l l' : List R} (h : l.Perm l') : bigSepL l Φ = bigSepL l' Φ := by
    induction h with
    | nil => rfl
    | cons a _ ih => rw [bigSepL_cons', bigSepL_cons', ih]
    | swap a b l =>
      simp only [bigSepL_cons']
      exact BI.Entails.antisymm (swap_sep _ _ _) (swap_sep _ _ _)
    | trans _ _ ih₁ ih₂ => exact ih₁.trans ih₂

theorem pay_split : ∀ (ps o o' : List Pay), payAll ps o = some o' → o = ps ++ o'
  | [], o, o', h => Option.some.inj h
  | p :: ps, [], o', h => absurd h (by simp [payAll])
  | p :: ps, q :: o, o', h => by
    unfold payAll at h
    split at h
    · rename_i hp; subst hp; rw [pay_split ps o o' h]; rfl
    · exact absurd h (by simp)

end
end Cert.Exch
end
-- ==== Proof.Steps.lean ====
/-
# Each step does what its names say

One lemma for each kind of step: from the resources it takes and what the device owes, it runs to the resources it gives.
-/
module

public import proofs.«01_k».proof.Proof.Res

@[expose] public section

noncomputable section

namespace Cert.Exch

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-! ## The points-tos through the kernel's views -/

section Views
omit [FloatOps F]

theorem oPts_view (c d : Dev nD) (e : E) (q : PosShare TreeShare) (f : S1x1024x1024.Idx → Elt F .bf16) :
    oPts d (toSub c e) q f = ((oP c e).view.loc (d : Thread nD τ) ↦[(oP c e).view.set]{q} f : sProp 𝕄) := by
  unfold oPts; rw [oP_set]
theorem xPts_view (c : Dev nD) (e : E) (f : S1x1024x1024.Idx → Elt F .bf16) :
    xPts c (toSub c e) f = ((xP c e).view.loc (c : Thread nD τ) ↦[(xP c e).view.set]{fullShare} f : sProp 𝕄) := by
  unfold xPts; rw [xP_set]
theorem stPts_view (c : Dev nD) (i : Fin 2) (f : S2x32x1024.Idx → Elt F .bf16) :
    stPts c i f = ((stP i).view.loc (c : Thread nD τ) ↦[(stP i).view.set]{fullShare} f : sProp 𝕄) := by
  unfold stPts; rw [stP_set]
theorem cxPts_view (c : Dev nD) (k : Fin 12) (f : S384x1024.Idx → Elt F .bf16) :
    cxPts c k f = ((cxP k).view.loc (c : Thread nD τ) ↦[(cxP k).view.set]{fullShare} f : sProp 𝕄) := by
  unfold cxPts; rw [cxP_set]

theorem st_access (i : Fin 2) : stM.view.setOn (stRect i).toLoadRect.set ⊆ slotSet i := by
  intro j hj
  obtain ⟨y, hy, rfl⟩ := Finset.mem_map.mp hj
  exact hy
theorem cx_access (k : Fin 12) : cxM.view.setOn (cxRect k).toLoadRect.set ⊆ cxSet k := by
  intro j hj
  obtain ⟨y, hy, rfl⟩ := Finset.mem_map.mp hj
  exact hy
theorem cx_store (k : Fin 12) : (cxM.access (cxRect k)).setOn Finset.univ ⊆ cxSet k := by
  intro j hj
  rw [← cxP_set]; exact hj
end Views

/-- The weakest precondition of a program on device `c`. -/
abbrev WP (c : Dev nD) {R : Type} (p : Prog (TpuEff nD τ sig (Elt F) Λ₀ .tc) R) (Q : R → sProp 𝕄) : sProp 𝕄 :=
  wp frame (wpE (defs₀ (F := F)) 𝒱₀ (c : Thread nD τ) none) Set.univ p Q

section
variable (x : Dev nD → S1x1024x1024.Idx → Elt F .bf16) (K : Dev nD × CN → ℕ) (c : Dev nD) (v : Elt F .i32) (hw : k0_chk1 c v)
  (hS : ∀ a, toS (F := F) c v hw a = peer a c) (hE : ∀ e, toE (F := F) c v hw e = peer (ax e) c)

include hS in
theorem step_sig (k : PUnit → Prog (TpuEff nD τ sig (Elt F) Λ₀ .tc) PUnit) (Qt : PUnit → sProp 𝕄) (a : Ax) (o : List Pay) :
    iprop(records x K ∗ (P x c (.bt a) ∗ bigSep (axE a) fun e => P x c (.mine e)) ∗ owing c (.inl a :: o))
      ⊢ iprop((owing c o -∗ WP c (k ⟨⟩) Qt) -∗ WP c (stepProg (F := F) c v hw (.sig a) >>= k) Qt) := by
  simp only [stepProg, semSignalWord, Prog.lift, Prog.bind_op, Prog.bind_ret, Prog.pure_eq_ret]
  rw [hS a]
  unfold owing
  have hd : a ∈ (Rd x).duties (cell (peer a c) kBar) 0 := by rw [duties_cell]; exact Finset.mem_univ _
  have hp : bigSep (axE a) (fun e => P x c (.mine e)) = (Rd x).payload ((peer a c : Thread nD τ), .reg barS) 0 a := by
    refine Eq.trans ?_ (payload_cell x (peer a c) kBar 0 a).symm
    show _ = barPay (peer a c) a; unfold barPay; rw [peer_peer]; rfl
  rw [hp, show P x c (.bt a) = dutyTok ER ((peer a c : Thread nD τ), .reg barS) 0 a from rfl]
  iintro ⟨#HR, ⟨Ht, Hm⟩, ⟨%W, HO⟩⟩ Hk
  iapply (Rounds.wp_signal 𝒱₀ ER (Rd x) (c : Thread nD τ) none (dst := (peer a c : Thread nD τ)) (κ := K (peer a c, kBar))
      (d := a) hd
      ((amount_cell x (peer a c) kBar 0 a).trans (by decide)) () (owed c o) rfl) $$ [HO Ht Hm]
  · isplitr; · iapply (inv_at x K (peer a c) kBar); iexact HR
    isplitl [HO]; · iexact HO
    isplitl [Ht]; · iexact Ht
    isplitl [Hm]; · iexact Hm
    iapply (reached_at x K (peer a c) kBar); iexact HR
  iintro HO
  iapply Hk
  iexists W; iexact HO

/-- A local copy into a slot, as one rule. -/
theorem wp_fetch (k : PUnit → Prog (TpuEff nD τ sig (Elt F) Λ₀ .tc) PUnit) (Qt : PUnit → sProp 𝕄) (i : Fin 12) {hsrc} {hdst} {hsem} (f : S2x32x1024.Idx → Elt F .bf16) :
    iprop(cellInv ER (Rd x) (K (c, kCp (slot i))) (cell c (kCp (slot i))) ∗ xPts c (toSub c (.inl i)) (x c) ∗ stPts c (slot i) f
        ∗ dutyTok ER (cell c (kCp (slot i))) (i.val / 2) 0 ∗ reached ER (cell c (kCp (slot i))) (i.val / 2))
      ⊢ iprop((cred (tallyAt (cell c (kCp (slot i))) () N) -∗ WP c (k ⟨⟩) Qt)
          -∗ WP c (.op (.enqueueDma (xP c (.inl i)) (.here (stP (slot i))) (.dma (cpS (slot i))) hsrc hdst hsem) k) Qt) := by
  rw [xPts_view, stPts_view]
  have hd : (0 : Fin 3) ∈ (Rd x).duties (cell c (kCp (slot i))) (i.val / 2) := by
    rw [duties_cell]; show (0 : Fin 3) ∈ (if i.val / 2 < 6 then {0} else ∅ : Finset (Fin 3))
    rw [if_pos (by omega)]; exact Finset.mem_singleton_self _
  refine Rounds.wp_copy_pointsTo 𝒱₀ ER (Rd x) (c : Thread nD τ) none (κ := K (c, kCp (slot i))) (r := i.val / 2) (d := 0) hd () N
    (show (stP (slot i)).view.amount (.dma (cpS (slot i))) = N from credit_stP (slot i)) (amount_cell x c (kCp (slot i)) (i.val / 2) 0) ?_
  refine BI.Entails.trans ?_ (Entails.of_eq (payload_cell x c (kCp (slot i)) (i.val / 2) 0).symm)
  show _ ⊢ cpPay x c (copyNo (slot i) (i.val / 2))
  rw [copyNo_self]; unfold cpPay
  rw [pointsTo_congr (fetch_writes x c i (slot i) f), ← stPts_view, ← xPts_view]

theorem step_fetch (k : PUnit → Prog (TpuEff nD τ sig (Elt F) Λ₀ .tc) PUnit) (Qt : PUnit → sProp 𝕄) (i : Fin 12) (o : List Pay) :
    iprop(records x K ∗ (P x c (.xp i) ∗ P x c (.stE (slot i)) ∗ P x c (.ct i) ∗ P x c (.cq (slot i) ⟨i.val / 2, by omega⟩)) ∗ owing c o)
      ⊢ iprop(((P x c (.cf i) ∗ P x c (.cq (slot i) ⟨i.val / 2, by omega⟩)) ∗ owing c o -∗ WP c (k ⟨⟩) Qt) -∗ WP c (stepProg (F := F) c v hw (.fetch i) >>= k) Qt) := by
  simp only [stepProg, Prog.lift, Prog.bind_op, Prog.bind_ret, Prog.pure_eq_ret, P]
  iintro ⟨#HR, ⟨Hx, ⟨%f, Hs⟩, Ht, Hq, #Hr⟩, HO⟩ Hk
  iapply (wp_fetch x K c k Qt i f) $$ [Hx Hs Ht]
  · isplitr; · iapply (inv_at x K c (kCp (slot i))); iexact HR
    isplitl [Hx]; · iexact Hx
    isplitl [Hs]; · iexact Hs
    isplitl [Ht]; · iexact Ht
    iexact Hr
  iintro Hc
  iapply Hk
  isplitl [Hc Hq]
  · isplitl [Hc]; · iexact Hc
    isplitl [Hq]; · iexact Hq
    iexact Hr
  iexact HO

/-- A wait on a cell of the device's own for all its round expects, whatever the effect that waits. -/
theorem wp_await (k : PUnit → Prog (TpuEff nD τ sig (Elt F) Λ₀ .tc) PUnit) (Qt : PUnit → sProp 𝕄) (q : CN) (r n : ℕ) (hn : n = (Rd x).expect (cell c q) r) (o : List Pay) (ho : ∀ p ∈ o, lvOf q < lvOf (payKey p))
    (w : TpuEff nD τ sig (Elt F) Λ₀ .tc PUnit)
    (hwt : ∀ K' : PUnit → sProp 𝕄, wpE (defs₀ (F := F)) 𝒱₀ (c : Thread nD τ) none Set.univ w K' = waitSpec (c : Thread nD τ) Set.univ (csem q) n K') :
    iprop(records x K ∗ (cred (tallyAt (cell c q) () n) ∗ atPos ER (cell c q) r ∅ 0) ∗ owing c o)
      ⊢ iprop(((atPos ER (cell c q) (r + 1) ∅ 0 ∗ reached ER (cell c q) (r + 1)
          ∗ bigSep ((Rd x).duties (cell c q) r \ ∅) (fun d => (Rd x).payload (cell c q) r d)) ∗ owing c o -∗ WP c (k ⟨⟩) Qt) -∗ WP c (.op w k) Qt) := by
  unfold owing
  iintro ⟨#HR, ⟨Hc, Hq⟩, ⟨%W, HO⟩⟩ Hk
  iapply (Rounds.wp_wait_rest_token 𝒱₀ ER (Rd x) (c : Thread nD τ) none (κ := K (c, q))
      hwt (Set.mem_univ _) () (O := owed c o) (W := W) (R := r) (m := 0) (T := ∅) ((Nat.zero_add _).trans hn)) $$ [Hc Hq HO]
  · isplitr; · iapply (inv_at x K c q); iexact HR
    isplitl [Hc]; · iexact Hc
    isplitl [HO]; · iexact HO
    isplitr
    · iapply (mayWait_at c (csem q) _ (lv_cell c q ()) o ho)
      iapply (lev_at x K); iexact HR
    iexact Hq
  iintro ⟨HO, Hq, Hr, Hp⟩
  iapply Hk
  isplitl [Hq Hr Hp]
  · isplitl [Hq]; · iexact Hq
    isplitl [Hr] <;> iassumption
  iexists _; iexact HO

/-- On a cell whose round has one duty. -/
theorem wp_await_one (k : PUnit → Prog (TpuEff nD τ sig (Elt F) Λ₀ .tc) PUnit) (Qt : PUnit → sProp 𝕄) (q : CN) (r : ℕ) (hd : dutiesOf (some q) r = {0}) (hq : amountFor (some q) = N) (o : List Pay) (ho : ∀ p ∈ o, lvOf q < lvOf (payKey p))
    (w : TpuEff nD τ sig (Elt F) Λ₀ .tc PUnit)
    (hwt : ∀ K' : PUnit → sProp 𝕄, wpE (defs₀ (F := F)) 𝒱₀ (c : Thread nD τ) none Set.univ w K' = waitSpec (c : Thread nD τ) Set.univ (csem q) N K') :
    iprop(records x K ∗ (cred (tallyAt (cell c q) () N) ∗ atPos ER (cell c q) r ∅ 0) ∗ owing c o)
      ⊢ iprop(((atPos ER (cell c q) (r + 1) ∅ 0 ∗ reached ER (cell c q) (r + 1) ∗ payOf x c (some q) r 0) ∗ owing c o -∗ WP c (k ⟨⟩) Qt) -∗ WP c (.op w k) Qt) := by
  rw [← rest_one x c q r hd]
  exact wp_await x K c k Qt q r N (hq.symm.trans (expect_one x c q r hd).symm) o ho w hwt

theorem step_land (k : PUnit → Prog (TpuEff nD τ sig (Elt F) Λ₀ .tc) PUnit) (Qt : PUnit → sProp 𝕄) (i : Fin 12) (o : List Pay) (ho : ∀ p ∈ o, lvOf (kCp (slot i)) < lvOf (payKey p)) :
    iprop(records x K ∗ (P x c (.cf i) ∗ P x c (.cq (slot i) ⟨i.val / 2, by omega⟩)) ∗ owing c o)
      ⊢ iprop(((P x c (.stF i) ∗ P x c (.xp i) ∗ P x c (.cq (slot i) ⟨i.val / 2 + 1, by omega⟩)) ∗ owing c o -∗ WP c (k ⟨⟩) Qt)
        -∗ WP c (stepProg (F := F) c v hw (.land i) >>= k) Qt) := by
  have hd : dutiesOf (some (kCp (slot i))) (i.val / 2) = {0} := by
    show (if i.val / 2 < 6 then {0} else ∅ : Finset (Fin 3)) = {0}; rw [if_pos (by omega)]
  have hp : payOf x c (some (kCp (slot i))) (i.val / 2) 0 = iprop(P x c (.stF i) ∗ P x c (.xp i)) := by
    show cpPay x c (copyNo (slot i) (i.val / 2)) = _; rw [copyNo_self]; rfl
  have h := wp_await_one x K c k Qt (kCp (slot i)) (i.val / 2) hd rfl o ho
    (.waitDma2 (cpS (slot i)) (xP c (.inl i)) (stP (slot i)) (xP_exact c (.inl i)) (stP_exact (slot i))) fun K' => rfl
  rw [hp] at h
  simp only [stepProg, Prog.lift, Prog.bind_op, Prog.bind_ret, Prog.pure_eq_ret, P] at h ⊢
  iintro ⟨HR, ⟨Hc, Hq, -⟩, HO⟩ Hk
  iapply h $$ [HR Hc Hq HO]
  · isplitl [HR]; · iexact HR
    isplitl [Hc Hq]
    · isplitl [Hc] <;> iassumption
    iexact HO
  iintro ⟨⟨Hq, Hr, Hs, Hx⟩, HO⟩
  iapply Hk
  isplitl [Hs Hx Hq Hr]
  · isplitl [Hs]; · iexact Hs
    isplitl [Hx]; · iexact Hx
    isplitl [Hq]; · iexact Hq
    iexact Hr
  iexact HO

theorem step_stash (k : PUnit → Prog (TpuEff nD τ sig (Elt F) Λ₀ .tc) PUnit) (Qt : PUnit → sProp 𝕄) (i : Fin 12) (o : List Pay) :
    iprop(records x K ∗ (P x c (.stF i) ∗ P x c (.cxE i)) ∗ owing c o)
      ⊢ iprop(((P x c (.stE (slot i)) ∗ P x c (.cxF i)) ∗ owing c o -∗ WP c (k ⟨⟩) Qt) -∗ WP c (stepProg (F := F) c v hw (.stash i) >>= k) Qt) := by
  simp only [stepProg, Prog.lift, Prog.bind_op, Prog.bind_ret, Prog.pure_eq_ret, Prog.bind_assoc, P]
  iintro ⟨-, ⟨Hs, ⟨%f, Hx⟩⟩, HO⟩ Hk
  unfold stPts cxPts
  iapply (wp_load 𝒱₀ (c : Thread nD τ) none Set.univ (m := stM) (st_access (slot i))) $$ Hs; iintro Hs
  iapply (wp_load 𝒱₀ (c : Thread nD τ) none Set.univ (m := cxM) (cx_access i)) $$ Hx; iintro Hx
  iapply (wp_store 𝒱₀ (c : Thread nD τ) none Set.univ (m := cxM) (r := cxRect i) (Mk := Finset.univ) (cx_store i)) $$ Hx; iintro Hx
  iapply Hk
  isplitl [Hs Hx]
  · isplitl [Hs]; · iexists _; iexact Hs
    have hc : ∀ j ∈ cxSet i, (cxP i).view.write (Elt F) f (k0_pay1 (stM.view.readAt (Elt F) (stRect (slot i)).toLoadRect (stV x c i))) Finset.univ j = cxV x c j := by
      rw [← cxP_set]; exact stash_writes x c i (slot i) f
    iapply (Entails.of_eq (pointsTo_congr (ℓ := (c : Thread nD τ).loc cc0_scratch1) (q := fullShare) hc)); iexact Hx
  iexact HO

theorem step_bar (k : PUnit → Prog (TpuEff nD τ sig (Elt F) Λ₀ .tc) PUnit) (Qt : PUnit → sProp 𝕄) (o : List Pay) (ho : ∀ p ∈ o, lvOf kBar < lvOf (payKey p)) :
    iprop(records x K ∗ (P x c .bc ∗ P x c .bq) ∗ owing c o)
      ⊢ iprop(((P x c .bd ∗ bigSep Finset.univ fun a : Ax => bigSep (axE a) fun e => P x c (.there e)) ∗ owing c o -∗ WP c (k ⟨⟩) Qt)
        -∗ WP c (stepProg (F := F) c v hw .bar >>= k) Qt) := by
  have hp : bigSep ((Rd x).duties (cell c kBar) 0 \ ∅) (fun d => (Rd x).payload (cell c kBar) 0 d)
      = bigSep Finset.univ fun a : Ax => bigSep (axE a) fun e => P x c (.there e) :=
    (rest_bar x c).trans (bigSep_congr fun a _ => bigSep_congr fun e he => by
      have ha : ax e = a := (Finset.mem_filter.mp he).2
      subst ha; rfl)
  have h := wp_await x K c k Qt kBar 0 3 (expect_bar x c).symm o ho (.semWait barS (3#32 : BitVec 32).toInt.toNat) fun K' => rfl
  rw [hp] at h
  simp only [stepProg, semWaitWord, Prog.lift, Prog.bind_op, Prog.bind_ret, Prog.pure_eq_ret, P] at h ⊢
  iintro ⟨HR, ⟨Hc, Hq⟩, HO⟩ Hk
  iapply h $$ [HR Hc Hq HO]
  · isplitl [HR]; · iexact HR
    isplitl [Hc Hq]
    · isplitl [Hc] <;> iassumption
    iexact HO
  iintro ⟨⟨Hq, -, Hp⟩, HO⟩
  iapply Hk
  isplitl [Hq Hp]
  · isplitl [Hq] <;> iassumption
  iexact HO

/-! ## Transfers -/

theorem src_some : ∀ p : Bool × Fin 10, ∃ e', src (.inr p) = some e' := by decide +kernel

theorem srcR_P (e : E) : P x c (srcR e) = sndPay x c e := by
  match e with
  | .inl i => rfl
  | .inr (b, i) =>
    obtain ⟨e', he'⟩ := src_some (b, i)
    have h : srcR (.inr (b, i)) = if b then R.outR e' else R.outL e' := by
      show (match src (.inr (b, i)) with | some e' => if b then R.outR e' else R.outL e' | none => R.bd) = _
      rw [he']
    rw [h]; show _ = oPts c (toSub c (.inr (b, i))) (half b) (outV x c)
    rw [show toSub c (.inr (b, i)) = sub c e' from sub_src c _ _ he']
    cases b <;> rfl

/-- A transfer between any two memrefs of a piece's shape, to device `n`. -/
theorem wp_piece (k : PUnit → Prog (TpuEff nD τ sig (Elt F) Λ₀ .tc) PUnit) (Qt : PUnit → sProp 𝕄) (n : Dev nD)
    (s d : Memref sig .tc .vmem S32x1024 .bf16) (q : PosShare TreeShare) (fs : Buf (Elt F) (s.view.loc (c : Thread nD τ)))
    (fd : Buf (Elt F) (d.view.loc (n : Thread nD τ))) (sS sR : DmaSem sig) (κ₁ κ₂ : ℕ) (M : ℕ)
    (R : Rounds.Schedule (GSem nD τ sig) (Fin 3) 𝕄) [∀ g r d, BI.Storable (upEmb : UEmb _ 𝕄) (R.payload g r d)]
    (hd₁ : (0 : Fin 3) ∈ R.duties ((c : Thread nD τ), .dma sS) 0) (hd₂ : (0 : Fin 3) ∈ R.duties ((n : Thread nD τ), .dma sR) 0)
    (hN : d.view.amount (.dma sR) = M)
    (hk₁ : R.amount ((c : Thread nD τ), .dma sS) 0 0 = M) (hk₂ : R.amount ((n : Thread nD τ), .dma sR) 0 0 = M)
    {hsc} {hsrc} {hdst} {hsem} (O : CellTallies nD τ sig Unit) (W : Waits sig Unit)
    (hp₁ : (s.view.loc (c : Thread nD τ) ↦[s.view.set]{q} fs) ⊢ R.payload ((c : Thread nD τ), .dma sS) 0 0)
    (hp₂ : (d.view.loc (n : Thread nD τ) ↦[d.view.set]{fullShare} d.view.write (Elt F) fd (s.view.read (Elt F) fs) Finset.univ) ⊢ R.payload ((n : Thread nD τ), .dma sR) 0 0) :
    iprop(cellInv ER R κ₁ ((c : Thread nD τ), .dma sS) ∗ cellInv ER R κ₂ ((n : Thread nD τ), .dma sR)
        ∗ (s.view.loc (c : Thread nD τ) ↦[s.view.set]{q} fs) ∗ (d.view.loc (n : Thread nD τ) ↦[d.view.set]{fullShare} fd)
        ∗ owes (c : Thread nD τ) (O + tallyAt ((n : Thread nD τ), .dma sR) () M) W
        ∗ dutyTok ER ((c : Thread nD τ), .dma sS) 0 0 ∗ reached ER ((c : Thread nD τ), .dma sS) 0
        ∗ dutyTok ER ((n : Thread nD τ), .dma sR) 0 0 ∗ reached ER ((n : Thread nD τ), .dma sR) 0)
      ⊢ iprop(((cred (tallyAt ((c : Thread nD τ), .dma sS) () M) ∗ owes (c : Thread nD τ) O W) -∗ WP c (k ⟨⟩) Qt)
          -∗ WP c (.op (.enqueueDma s (.remote (Dev.tc n : Thread nD τ) d (.dma sS) hsc) (.dma sR) hsrc hdst hsem) k) Qt) := by
  exact Rounds.wp_send_pointsTo 𝒱₀ ER R (c : Thread nD τ) none (κ₁ := κ₁) (κ₂ := κ₂)
    (r₁ := 0) (r₂ := 0) (d₁ := 0) (d₂ := 0) (fd := fd) hd₁ hd₂ () () M hN hk₁ hk₂ O rfl (W := W) hp₁ hp₂

/-- Transfer `e`, to `n`, the neighbour along its axis, from a source whose contents the neighbour's piece is to hold. -/
theorem wp_transfer (k : PUnit → Prog (TpuEff nD τ sig (Elt F) Λ₀ .tc) PUnit) (Qt : PUnit → sProp 𝕄) (e : E) (n : Dev nD) (hn : n = peer (ax e) c)
    (s : Memref sig .tc .vmem S32x1024 .bf16) (q : PosShare TreeShare) (fs : Buf (Elt F) (s.view.loc (c : Thread nD τ)))
    (hs : (s.view.loc (c : Thread nD τ) ↦[s.view.set]{q} fs) = sndPay x c e) (fd : S1x1024x1024.Idx → Elt F .bf16)
    (hwr : ∀ j ∈ (oP c e).view.set, (oP c e).view.write (Elt F) fd (s.view.read (Elt F) fs) Finset.univ j = outV x (peer (ax e) c) j)
    {hsc} {hsrc} {hdst} {hsem} (o : List Pay) (W : Waits sig Unit) :
    iprop(cellInv ER (Rd x) (K (c, kSnd e)) (cell c (kSnd e)) ∗ cellInv ER (Rd x) (K (peer (ax e) c, kRcv e)) (cell (peer (ax e) c) (kRcv e))
        ∗ sndPay x c e ∗ oPts (peer (ax e) c) (toSub c e) fullShare fd ∗ owes (c : Thread nD τ) (owed c (.inr e :: o)) W
        ∗ dutyTok ER (cell c (kSnd e)) 0 0 ∗ reached ER (cell c (kSnd e)) 0
        ∗ dutyTok ER (cell (peer (ax e) c) (kRcv e)) 0 0 ∗ reached ER (cell (peer (ax e) c) (kRcv e)) 0)
      ⊢ iprop(((cred (tallyAt (cell c (kSnd e)) () N) ∗ owes (c : Thread nD τ) (owed c o) W) -∗ WP c (k ⟨⟩) Qt)
          -∗ WP c (.op (.enqueueDma s (.remote (Dev.tc n : Thread nD τ) (oP c e) (.dma (sndS e)) hsc) (.dma (rcvS e)) hsrc hdst hsem) k) Qt) := by
  subst hn
  have hd₁ : (0 : Fin 3) ∈ (Rd x).duties (cell c (kSnd e)) 0 := by rw [duties_cell]; exact Finset.mem_singleton_self _
  have hd₂ : (0 : Fin 3) ∈ (Rd x).duties (cell (peer (ax e) c) (kRcv e)) 0 := by rw [duties_cell]; exact Finset.mem_singleton_self _
  have hp₁ : (s.view.loc (c : Thread nD τ) ↦[s.view.set]{q} fs) = (Rd x).payload (cell c (kSnd e)) 0 0 := hs.trans (payload_cell x c (kSnd e) 0 0).symm
  have hp₂ : ((oP c e).view.loc (peer (ax e) c : Thread nD τ) ↦[(oP c e).view.set]{fullShare}
      (oP c e).view.write (Elt F) fd (s.view.read (Elt F) fs) Finset.univ) = (Rd x).payload (cell (peer (ax e) c) (kRcv e)) 0 0 :=
    (pointsTo_congr hwr).trans ((oPts_view c (peer (ax e) c) e fullShare (outV x (peer (ax e) c))).symm.trans (payload_cell x (peer (ax e) c) (kRcv e) 0 0).symm)
  have hO : owed c (.inr e :: o) = owed c o + tallyAt (cell (peer (ax e) c) (kRcv e)) () N := rfl
  have hN : (oP c e).view.amount (.dma (rcvS e)) = N := credit_oP c e
  rw [← hs, oPts_view]
  exact wp_piece c k Qt (peer (ax e) c) s (oP c e) q fs fd (sndS e) (rcvS e) (K (c, kSnd e)) (K (peer (ax e) c, kRcv e)) N (Rd x) hd₁ hd₂ hN
    (amount_cell x c (kSnd e) 0 0) (amount_cell x (peer (ax e) c) (kRcv e) 0 0) (owed c o) W (Entails.of_eq hp₁) (Entails.of_eq hp₂)

include hE in
theorem step_send (k : PUnit → Prog (TpuEff nD τ sig (Elt F) Λ₀ .tc) PUnit) (Qt : PUnit → sProp 𝕄) (e : E) (o : List Pay) :
    iprop(records x K ∗ (P x c (.tk e) ∗ P x c (.there e) ∗ P x c (srcR e)) ∗ owing c (.inr e :: o))
      ⊢ iprop((P x c (.crS e) ∗ owing c o -∗ WP c (k ⟨⟩) Qt) -∗ WP c (stepProg (F := F) c v hw (.send e) >>= k) Qt) := by
  rw [srcR_P, show P x c (.crS e) = cred (tallyAt (cell c (kSnd e)) () N) from rfl]
  unfold owing
  have close (W : Waits sig Unit) :
      iprop((cred (tallyAt (cell c (kSnd e)) () N) ∗ (∃ W, owes (c : Thread nD τ) (owed c o) W)) -∗ WP c (k ⟨⟩) Qt)
        ⊢ iprop((cred (tallyAt (cell c (kSnd e)) () N) ∗ owes (c : Thread nD τ) (owed c o) W) -∗ WP c (k ⟨⟩) Qt) := by
    iintro Hk ⟨Hc, HO⟩
    iapply Hk
    isplitl [Hc]; · iexact Hc
    iexists W; iexact HO
  have go (f : S1x1024x1024.Idx → Elt F .bf16) (W : Waits sig Unit) (p : Prog (TpuEff nD τ sig (Elt F) Λ₀ .tc) PUnit)
      (h : iprop(cellInv ER (Rd x) (K (c, kSnd e)) (cell c (kSnd e)) ∗ cellInv ER (Rd x) (K (peer (ax e) c, kRcv e)) (cell (peer (ax e) c) (kRcv e))
        ∗ sndPay x c e ∗ oPts (peer (ax e) c) (toSub c e) fullShare f ∗ owes (c : Thread nD τ) (owed c (.inr e :: o)) W
        ∗ dutyTok ER (cell c (kSnd e)) 0 0 ∗ reached ER (cell c (kSnd e)) 0
        ∗ dutyTok ER (cell (peer (ax e) c) (kRcv e)) 0 0 ∗ reached ER (cell (peer (ax e) c) (kRcv e)) 0)
        ⊢ iprop(((cred (tallyAt (cell c (kSnd e)) () N) ∗ owes (c : Thread nD τ) (owed c o) W) -∗ WP c (k ⟨⟩) Qt) -∗ WP c p Qt)) :
      iprop(records x K ∗ ((dutyTok ER (cell c (kSnd e)) 0 0 ∗ dutyTok ER (cell (peer (ax e) c) (kRcv e)) 0 0)
          ∗ oPts (peer (ax e) c) (toSub c e) fullShare f ∗ sndPay x c e) ∗ owes (c : Thread nD τ) (owed c (.inr e :: o)) W)
        ⊢ iprop((cred (tallyAt (cell c (kSnd e)) () N) ∗ (∃ W, owes (c : Thread nD τ) (owed c o) W) -∗ WP c (k ⟨⟩) Qt) -∗ WP c p Qt) := by
    iintro ⟨#HR, ⟨⟨Ht, Ht'⟩, Hd, Hs⟩, HO⟩ Hk
    iapply h $$ [Ht Ht' Hd Hs HO]
    · isplitr; · iapply (inv_at x K c (kSnd e)); iexact HR
      isplitr; · iapply (inv_at x K (peer (ax e) c) (kRcv e)); iexact HR
      isplitl [Hs]; · iexact Hs
      isplitl [Hd]; · iexact Hd
      isplitl [HO]; · iexact HO
      isplitl [Ht]; · iexact Ht
      isplitr; · iapply (reached_at x K c (kSnd e)); iexact HR
      isplitl [Ht']; · iexact Ht'
      iapply (reached_at x K (peer (ax e) c) (kRcv e)); iexact HR
    iapply (close W); iexact Hk
  have all (p : Prog (TpuEff nD τ sig (Elt F) Λ₀ .tc) PUnit) (h : ∀ f W,
      iprop(records x K ∗ ((dutyTok ER (cell c (kSnd e)) 0 0 ∗ dutyTok ER (cell (peer (ax e) c) (kRcv e)) 0 0)
          ∗ oPts (peer (ax e) c) (toSub c e) fullShare f ∗ sndPay x c e) ∗ owes (c : Thread nD τ) (owed c (.inr e :: o)) W)
        ⊢ iprop((cred (tallyAt (cell c (kSnd e)) () N) ∗ (∃ W, owes (c : Thread nD τ) (owed c o) W) -∗ WP c (k ⟨⟩) Qt) -∗ WP c p Qt)) :
      iprop(records x K ∗ (P x c (.tk e) ∗ P x c (.there e) ∗ sndPay x c e) ∗ ∃ W, owes (c : Thread nD τ) (owed c (.inr e :: o)) W)
        ⊢ iprop((cred (tallyAt (cell c (kSnd e)) () N) ∗ (∃ W, owes (c : Thread nD τ) (owed c o) W) -∗ WP c (k ⟨⟩) Qt) -∗ WP c p Qt) := by
    simp only [P]
    iintro ⟨HR, ⟨Ht, ⟨%f, Hd⟩, Hs⟩, ⟨%W, HO⟩⟩
    iapply (h f W)
    isplitl [HR]; · iexact HR
    isplitl [Ht Hd Hs]
    · isplitl [Ht]; · iexact Ht
      isplitl [Hd] <;> iassumption
    iexact HO
  match e with
  | .inl i =>
    exact all _ fun f W => go f W _ (wp_transfer x K c k Qt (.inl i) _ (hE (.inl i)) (cxP i) fullShare (cxV x c) (cxPts_view c i (cxV x c)).symm f
      (first_writes x c i f) o W)
  | .inr b =>
    obtain ⟨e', he'⟩ := src_some b
    exact all _ fun f W => go f W _ (wp_transfer x K c k Qt (.inr b) _ (hE (.inr b)) (oP c (.inr b)) (half b.1) (outV x c)
      (oPts_view c c (.inr b) (half b.1) (outV x c)).symm f (forward_writes x c (.inr b) e' he' f) o W)

/-- On a cell of one round and one duty. -/
theorem wp_done (k : PUnit → Prog (TpuEff nD τ sig (Elt F) Λ₀ .tc) PUnit) (Qt : PUnit → sProp 𝕄) (q : CN) (hd : dutiesOf (some q) 0 = {0}) (hq : amountFor (some q) = N) (o : List Pay) (ho : ∀ p ∈ o, lvOf q < lvOf (payKey p))
    (w : TpuEff nD τ sig (Elt F) Λ₀ .tc PUnit)
    (hwt : ∀ K' : PUnit → sProp 𝕄, wpE (defs₀ (F := F)) 𝒱₀ (c : Thread nD τ) none Set.univ w K' = waitSpec (c : Thread nD τ) Set.univ (csem q) N K') :
    iprop(records x K ∗ (cred (tallyAt (cell c q) () N) ∗ atPos ER (cell c q) 0 ∅ 0) ∗ owing c o)
      ⊢ iprop(((atPos ER (cell c q) 1 ∅ 0 ∗ payOf x c (some q) 0 0) ∗ owing c o -∗ WP c (k ⟨⟩) Qt) -∗ WP c (.op w k) Qt) := by
  refine (wp_await_one x K c k Qt q 0 hd hq o ho w hwt).trans ?_
  iintro H Hk
  iapply H
  iintro ⟨⟨Hq, -, Hp⟩, HO⟩
  iapply Hk
  isplitl [Hq Hp]
  · isplitl [Hq] <;> iassumption
  iexact HO

theorem step_sent (k : PUnit → Prog (TpuEff nD τ sig (Elt F) Λ₀ .tc) PUnit) (Qt : PUnit → sProp 𝕄) (e : E) (o : List Pay) (ho : ∀ p ∈ o, lvOf (kSnd e) < lvOf (payKey p)) :
    iprop(records x K ∗ (P x c (.crS e) ∗ P x c (.qS e)) ∗ owing c o)
      ⊢ iprop(((P x c (.dS e) ∗ P x c (srcR e)) ∗ owing c o -∗ WP c (k ⟨⟩) Qt) -∗ WP c (stepProg (F := F) c v hw (.sent e) >>= k) Qt) := by
  rw [srcR_P]
  match e with
  | .inl i => exact wp_done x K c k Qt (kSnd (.inl i)) rfl rfl o ho _ fun K' => rfl
  | .inr b => exact wp_done x K c k Qt (kSnd (.inr b)) rfl rfl o ho _ fun K' => rfl

theorem step_recv (k : PUnit → Prog (TpuEff nD τ sig (Elt F) Λ₀ .tc) PUnit) (Qt : PUnit → sProp 𝕄) (e : E) (o : List Pay) (ho : ∀ p ∈ o, lvOf (kRcv e) < lvOf (payKey p)) :
    iprop(records x K ∗ (P x c (.crR e) ∗ P x c (.qR e)) ∗ owing c o)
      ⊢ iprop(((P x c (.dR e) ∗ P x c (.outL e) ∗ P x c (.outR e)) ∗ owing c o -∗ WP c (k ⟨⟩) Qt) -∗ WP c (stepProg (F := F) c v hw (.recv e) >>= k) Qt) := by
  have hs : payOf x c (some (kRcv e)) 0 0 = iprop(P x c (.outL e) ∗ P x c (.outR e)) := by
    show rcvPay x c e = _
    unfold rcvPay oPts
    exact BI.Entails.antisymm (pointsTo_share (PosShare.mem_left_op_right fullShare)).1 (pointsTo_share (PosShare.mem_left_op_right fullShare)).2
  rw [← hs]
  match e with
  | .inl i => exact wp_done x K c k Qt (kRcv (.inl i)) rfl rfl o ho _ fun K' => rfl
  | .inr b => exact wp_done x K c k Qt (kRcv (.inr b)) rfl rfl o ho _ fun K' => rfl

end
end Cert.Exch
end
-- ==== Proof.Play.lean ====
/-
# The whole body on names

From the names a device starts with, the steps of the body run through and end with every transfer done, every piece of the
result filled and everything borrowed given back.
-/
module

public import proofs.«01_k».proof.Proof.Res

@[expose] public section

noncomputable section

namespace Cert.Exch

/-- What a device owes at the start, in the order it settles it. -/
def owed0 : List Pay :=
  [.inl 0, .inl 1, .inl 2] ++ es0.map .inr ++ ((List.finRange 8).flatMap fun k => [.inr (Y (k.castLE (by decide))), .inr (Z (k.castLE (by decide)))])
    ++ [.inr (Y 8), .inr (Y 9), .inr (Z 8), .inr (Z 9)]

/-- The names at the start: the barrier and the copies; each transfer's; the pieces. -/
def ini : List R :=
  [.bc, .bq, .bt 0, .bt 1, .bt 2, .cq 0 0, .cq 1 0, .stE 0, .stE 1]
    ++ ((List.finRange 12).map .xp ++ ((List.finRange 12).map .ct ++ ((List.finRange 12).map .cxE
    ++ (esAll.map .mine ++ (esAll.map .tk ++ (esAll.map .crR ++ (esAll.map .qS ++ esAll.map .qR)))))))

/-- The names at the end. -/
def fin : List R :=
  [.bd, .cq 0 6, .cq 1 6, .stE 0, .stE 1]
    ++ ((List.finRange 12).map .xp ++ ((List.finRange 12).map .cxF
    ++ (esAll.map .outL ++ (esAll.map .outR ++ (esAll.map .dS ++ esAll.map .dR)))))

/-- Playing the steps from the start, what is left after the end's names; nothing if it gets stuck. -/
def played : Option (List R) := (exec steps ini owed0).bind fun r => if r.2 = [] then takeAll fin r.1 else none

set_option maxRecDepth 100000 in
theorem played_eq : played = some [] := by decide +kernel

theorem play : ∃ l, exec steps ini owed0 = some (l, []) ∧ takeAll fin l = some [] := by
  have h := played_eq
  unfold played at h
  rcases hx : exec steps ini owed0 with _ | ⟨l, o⟩
  · rw [hx] at h; exact absurd h (by simp)
  · rw [hx] at h
    by_cases ho : o = []
    · subst ho; exact ⟨l, rfl, by simpa using h⟩
    · exact absurd h (by simp [ho])

end Cert.Exch
end
-- ==== Proof.Run.lean ====
/-
# A run on names is a run

Each step at its list of names, and a list of steps by induction.
-/
module

public import proofs.«01_k».proof.Proof.Steps
public import proofs.«01_k».proof.Proof.Play

@[expose] public section

noncomputable section

namespace Cert.Exch

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section
variable (x : Dev nD → S1x1024x1024.Idx → Elt F .bf16) (K : Dev nD × CN → ℕ) (c : Dev nD) (v : Elt F .i32) (hw : k0_chk1 c v)
  (hS : ∀ a, toS (F := F) c v hw a = peer a c) (hE : ∀ e, toE (F := F) c v hw e = peer (ax e) c)

theorem all_above {o : List Pay} {q : CN} (h : above o (some q) = true) : ∀ p ∈ o, lvOf q < lvOf (payKey p) :=
  fun p hp => of_decide_eq_true (List.all_eq_true.mp h p hp)

omit [FloatOps F] in
/-- Products over the transfers along an axis, listed. -/
theorem axis_list (Φ : R → sProp 𝕄) (f : E → R) (a : Ax) : bigSepL ((axL a).map f) Φ = bigSep (axE a) fun e => Φ (f e) := by
  rw [bigSepL_map]
  exact (bigSep_eq_bigSepL_of_eq (axL a) (axL_set a) (axL_nodup a) (fun e => Φ (f e))).symm

omit [FloatOps F] in
theorem axes_list (Φ : R → sProp 𝕄) (f : E → R) :
    bigSepL (esAll.map f) Φ = bigSep Finset.univ fun a : Ax => bigSep (axE a) fun e => Φ (f e) := by
  have h : (bigSep Finset.univ fun a : Ax => bigSep (axE a) fun e => Φ (f e)) = bigSepL [0, 1, 2] fun a : Ax => bigSep (axE a) fun e => Φ (f e) :=
    bigSep_eq_bigSepL_of_eq [0, 1, 2] (by decide) (by decide) _
  rw [h]
  unfold esAll
  rw [List.map_append, List.map_append, bigSepL_append, bigSepL_append, axis_list, axis_list, axis_list]
  rfl

include hS hE in
theorem step_one (k : PUnit → Prog (TpuEff nD τ sig (Elt F) Λ₀ .tc) PUnit) (Qt : PUnit → sProp 𝕄) (s : Step) (o o' : List Pay) (hp : o = pays s ++ o') (ha : above o' (waits s) = true) :
    iprop(records x K ∗ bigSepL (need s) (P x c) ∗ owing c o)
      ⊢ iprop((bigSepL (give s) (P x c) ∗ owing c o' -∗ WP c (k ⟨⟩) Qt) -∗ WP c (stepProg (F := F) c v hw s >>= k) Qt) := by
  subst hp
  match s, ha with
  | .sig a, _ =>
    have h := step_sig x K c v hw hS k Qt a o'
    have hn : bigSepL (need (.sig a)) (P x c) = iprop(P x c (.bt a) ∗ bigSep (axE a) fun e => P x c (.mine e)) := by
      show bigSepL (.bt a :: (axL a).map .mine) (P x c) = _
      rw [bigSepL_cons', axis_list]
    have hg : bigSepL (give (.sig a)) (P x c) = iprop(emp) := rfl
    rw [hn, hg]
    refine h.trans ?_
    iintro H Hk
    iapply H
    iintro HO
    iapply Hk
    isplitr; · iempintro
    iexact HO
  | .fetch i, _ => exact step_fetch x K c v hw k Qt i o'
  | .land i, ha => exact step_land x K c v hw k Qt i o' (all_above ha)
  | .stash i, _ => exact step_stash x K c v hw k Qt i o'
  | .bar, ha =>
    have hg : bigSepL (give .bar) (P x c) = iprop(P x c .bd ∗ bigSep Finset.univ fun a : Ax => bigSep (axE a) fun e => P x c (.there e)) := by
      show bigSepL (.bd :: esAll.map .there) (P x c) = _
      rw [bigSepL_cons', axes_list]
    rw [hg]
    exact step_bar x K c v hw k Qt o' (all_above ha)
  | .send e, _ => exact step_send x K c v hw hE k Qt e o'
  | .sent e, ha => exact step_sent x K c v hw k Qt e o' (all_above ha)
  | .recv e, ha => exact step_recv x K c v hw k Qt e o' (all_above ha)

include hS hE in
theorem run_sound (Qt : PUnit → sProp 𝕄) : ∀ (ss : List Step) (l l' : List R) (o o' : List Pay), exec ss l o = some (l', o') →
    iprop(records x K ∗ bigSepL l (P x c) ∗ owing c o)
      ⊢ iprop((bigSepL l' (P x c) ∗ owing c o' -∗ WP c (pure ⟨⟩) Qt) -∗ WP c (progOf (F := F) c v hw ss) Qt)
  | [], l, l', o, o', h => by
    obtain ⟨rfl, rfl⟩ := Prod.mk.inj (Option.some.inj h)
    iintro ⟨-, Hl, HO⟩ Hk
    iapply Hk
    isplitl [Hl] <;> iassumption
  | s :: ss, l, l', o, o', h => by
    unfold exec at h
    split at h
    · rename_i l₁ o₁ h₁
      unfold exec1 at h₁
      split at h₁
      · rename_i l₂ o₂ hl hp
        split at h₁
        · rename_i ha
          obtain ⟨rfl, rfl⟩ := Prod.mk.inj (Option.some.inj h₁)
          have ih := run_sound Qt ss _ _ _ _ h
          have h1 := step_one x K c v hw hS hE (fun _ => progOf (F := F) c v hw ss) Qt s o o₂ (pay_split _ _ _ hp) ha
          rw [take_sep (P x c) _ _ _ hl]
          rw [bigSepL_append] at ih
          show _ ⊢ iprop(_ -∗ WP c (stepProg (F := F) c v hw s >>= fun _ => progOf c v hw ss) Qt)
          iintro ⟨#HR, ⟨Hn, Hl⟩, HO⟩ Hk
          iapply h1 $$ [Hn HO]
          · isplitr; · iexact HR
            isplitl [Hn] <;> iassumption
          iintro ⟨Hg, HO⟩
          iapply ih $$ [Hg Hl HO]
          · isplitr; · iexact HR
            isplitr [HO]
            · isplitl [Hg] <;> iassumption
            iexact HO
          iexact Hk
        · exact absurd h₁ (by simp)
      · exact absurd h₁ (by simp)
    · exact absurd h (by simp)

end
end Cert.Exch
end
-- ==== Proof.Gather.lean ====
/-
# Buffers into names, and back

Whole buffers cut into the pieces the names stand for, and the pieces at the end joined.
-/
module

public import proofs.«01_k».proof.Proof.Run

@[expose] public section

noncomputable section

namespace Cert.Exch

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Products over names, listed -/

omit [FloatOps F] in
theorem list12 (Φ : R → sProp 𝕄) (f : Fin 12 → R) : bigSepL ((List.finRange 12).map f) Φ = bigSep Finset.univ fun k : Fin 12 => Φ (f k) := by
  rw [bigSepL_map]
  exact (bigSep_eq_bigSepL_of_eq (List.finRange 12) (List.toFinset_finRange 12).symm (List.nodup_finRange 12) (fun k => Φ (f k))).symm
omit [FloatOps F] in
theorem listE (Φ : R → sProp 𝕄) (f : E → R) : bigSepL (esAll.map f) Φ = bigSep Finset.univ fun e : E => Φ (f e) := by
  rw [bigSepL_map]
  exact (bigSep_eq_bigSepL_of_eq esAll esAll_univ esAll_nodup (fun e => Φ (f e))).symm

/-! ## Pieces -/

/-- The pieces of device `c`'s result, one for each transfer it receives. -/
def subEquiv (c : Dev nD) : E ≃ Fin 32 := Equiv.ofBijective (sub c) ⟨sub_injective c, sub_surjective c⟩

section
omit [FloatOps F]
theorem whole_out (c : Dev nD) (q : PosShare TreeShare) (f : S1x1024x1024.Idx → Elt F .bf16) :
    (((c : Thread nD τ).loc cc0_stg1_0) ↦{q} f : sProp 𝕄) = bigSep Finset.univ fun s : Fin 32 => oPts c s q f := by
  unfold oPts
  exact Ring.pointsTo_blocks (ℓ := (c : Thread nD τ).loc cc0_stg1_0) pc pc_disjoint pc_cover f
theorem cut_out (c : Dev nD) (q : PosShare TreeShare) (f : S1x1024x1024.Idx → Elt F .bf16) :
    (((c : Thread nD τ).loc cc0_stg1_0) ↦{q} f : sProp 𝕄) = bigSep Finset.univ fun e : E => oPts c (sub c e) q f := by
  rw [whole_out]; exact bigSep_univ_equiv (subEquiv c) fun s => oPts c s q f
theorem whole_x (c : Dev nD) (f : S1x1024x1024.Idx → Elt F .bf16) :
    (((c : Thread nD τ).loc main_arg0) ↦{fullShare} f : sProp 𝕄) = bigSep Finset.univ fun s : Fin 32 => xPts c s f := by
  unfold xPts
  exact Ring.pointsTo_blocks (ℓ := (c : Thread nD τ).loc main_arg0) pc pc_disjoint pc_cover f
theorem cut_x (c : Dev nD) (f : S1x1024x1024.Idx → Elt F .bf16) :
    (((c : Thread nD τ).loc main_arg0) ↦{fullShare} f : sProp 𝕄)
      = iprop((bigSep Finset.univ fun k : Fin 12 => xPts c (toSub c (.inl k)) f) ∗ bigSep Finset.univ fun b : Bool × Fin 10 => xPts c (sub (peer 0 c) (.inr b)) f) := by
  rw [whole_x, bigSep_univ_equiv (subEquiv (peer 0 c)) fun s => xPts c s f]
  exact bigSep_univ_sum fun e : E => xPts c (sub (peer 0 c) e) f
theorem whole_st (c : Dev nD) (f : S2x32x1024.Idx → Elt F .bf16) :
    (((c : Thread nD τ).loc cc0_scratch0) ↦{fullShare} f : sProp 𝕄) = bigSep Finset.univ fun i : Fin 2 => stPts c i f := by
  unfold stPts
  exact Ring.pointsTo_blocks (ℓ := (c : Thread nD τ).loc cc0_scratch0) slotSet slot_disjoint slot_cover f
theorem two (Φ : Fin 2 → sProp 𝕄) : bigSep Finset.univ Φ = iprop(Φ 0 ∗ Φ 1) := bigSep_univ_eq_bigSepL [0, 1] (by decide) (by decide) Φ
theorem join_st (c : Dev nD) (f₀ : S2x32x1024.Idx → Elt F .bf16) :
    iprop((∃ f, stPts c 0 f) ∗ ∃ f, stPts c 1 f) ⊢ (iprop(∃ f, ((c : Thread nD τ).loc cc0_scratch0) ↦{fullShare} f) : sProp 𝕄) := by
  rw [← two fun i : Fin 2 => iprop(∃ f, stPts (F := F) c i f)]
  unfold stPts
  exact Ring.pointsTo_blocks_join_exists (ℓ := (c : Thread nD τ).loc cc0_scratch0) slotSet slot_disjoint slot_cover f₀
theorem cut_cx (c : Dev nD) (f : S384x1024.Idx → Elt F .bf16) :
    (((c : Thread nD τ).loc cc0_scratch1) ↦{fullShare} f : sProp 𝕄) = bigSep Finset.univ fun k : Fin 12 => cxPts c k f := by
  unfold cxPts
  exact Ring.pointsTo_blocks (ℓ := (c : Thread nD τ).loc cc0_scratch1) cxSet cx_disjoint cx_cover f

theorem some_each {A B : Type} [Fintype A] (Φ : A → B → sProp 𝕄) (f : B) :
    (bigSep Finset.univ fun a => Φ a f) ⊢ bigSep Finset.univ fun a => iprop(∃ f, Φ a f) :=
  bigSep_mono fun a _ => show (Φ a f : sProp 𝕄) ⊢ iprop(∃ f, Φ a f) from by iintro H; iexists f; iexact H
theorem out_some (c : Dev nD) (f : S1x1024x1024.Idx → Elt F .bf16) :
    (((c : Thread nD τ).loc cc0_stg1_0) ↦{fullShare} f : sProp 𝕄) ⊢ bigSep Finset.univ fun e : E => iprop(∃ f, oPts c (sub c e) fullShare f) := by
  rw [cut_out]; exact some_each (fun e f => oPts c (sub c e) fullShare f) f
theorem cx_some (c : Dev nD) (f : S384x1024.Idx → Elt F .bf16) :
    (((c : Thread nD τ).loc cc0_scratch1) ↦{fullShare} f : sProp 𝕄) ⊢ bigSep Finset.univ fun k : Fin 12 => iprop(∃ f, cxPts c k f) := by
  rw [cut_cx]; exact some_each (fun k f => cxPts c k f) f
theorem st_some (c : Dev nD) (f : S2x32x1024.Idx → Elt F .bf16) :
    (((c : Thread nD τ).loc cc0_scratch0) ↦{fullShare} f : sProp 𝕄) ⊢ iprop((∃ f, stPts c 0 f) ∗ ∃ f, stPts c 1 f) := by
  rw [whole_st, ← two fun i : Fin 2 => iprop(∃ f, stPts (F := F) c i f)]; exact some_each (fun i f => stPts c i f) f
/-- The two halves of every piece make the result whole. -/
theorem join_out (c : Dev nD) (f : S1x1024x1024.Idx → Elt F .bf16) :
    iprop((bigSep Finset.univ fun e : E => oPts c (sub c e) fullShare.left f) ∗ bigSep Finset.univ fun e : E => oPts c (sub c e) fullShare.right f)
      ⊢ (((c : Thread nD τ).loc cc0_stg1_0) ↦{fullShare} f : sProp 𝕄) := by
  rw [← cut_out, ← cut_out]
  exact (pointsTo_share (PosShare.mem_left_op_right fullShare)).2
end

/-! ## The names at the start and at the end -/

section
variable (x : Dev nD → S1x1024x1024.Idx → Elt F .bf16) (c : Dev nD)

/-- Semaphore positions and duties of device `c` at the start. -/
def ghost : sProp 𝕄 :=
  iprop((atPos ER (cell c kBar) 0 ∅ 0 ∗ (bigSep Finset.univ fun a : Ax => dutyTok ER (cell (peer a c) kBar) 0 a)
      ∗ (P x c (.cq 0 0) ∗ P x c (.cq 1 0)))
    ∗ (bigSep Finset.univ fun k : Fin 12 => P x c (.ct k)) ∗ (bigSep Finset.univ fun e : E => P x c (.tk e))
    ∗ (bigSep Finset.univ fun e : E => P x c (.qS e)) ∗ (bigSep Finset.univ fun e : E => P x c (.qR e)))
/-- The credits dealt to it. -/
def credits : sProp 𝕄 :=
  iprop(cred (tallyAt (cell c kBar) () 3) ∗ bigSep Finset.univ fun e : E => cred (tallyAt (cell c (kRcv e)) () N))

theorem ini_intro (fo : S1x1024x1024.Idx → Elt F .bf16) (fst : S2x32x1024.Idx → Elt F .bf16) (fcx : S384x1024.Idx → Elt F .bf16) :
    iprop(ghost x c ∗ credits c ∗ (((c : Thread nD τ).loc main_arg0) ↦{fullShare} x c) ∗ (((c : Thread nD τ).loc cc0_stg1_0) ↦{fullShare} fo)
        ∗ (((c : Thread nD τ).loc cc0_scratch0) ↦{fullShare} fst) ∗ (((c : Thread nD τ).loc cc0_scratch1) ↦{fullShare} fcx))
      ⊢ iprop(bigSepL ini (P x c) ∗ bigSep Finset.univ fun b : Bool × Fin 10 => xPts c (sub (peer 0 c) (.inr b)) (x c)) := by
  have h3 : (bigSep Finset.univ fun a : Ax => (dutyTok ER (cell (peer a c) kBar) 0 a : sProp 𝕄)) = iprop(P x c (.bt 0) ∗ P x c (.bt 1) ∗ P x c (.bt 2)) :=
    bigSep_univ_eq_bigSepL [0, 1, 2] (by decide) (by decide) fun a : Ax => P x c (.bt a)
  have hi : bigSepL ini (P x c) = iprop((cred (tallyAt (cell c kBar) () 3) ∗ atPos ER (cell c kBar) 0 ∅ 0 ∗ P x c (.bt 0) ∗ P x c (.bt 1) ∗ P x c (.bt 2) ∗ P x c (.cq 0 0) ∗ P x c (.cq 1 0)
      ∗ (∃ f, stPts c 0 f) ∗ ∃ f, stPts c 1 f)
      ∗ (bigSep Finset.univ fun k : Fin 12 => xPts c (toSub c (.inl k)) (x c)) ∗ (bigSep Finset.univ fun k : Fin 12 => P x c (.ct k)) ∗ (bigSep Finset.univ fun k : Fin 12 => iprop(∃ f, cxPts c k f))
      ∗ (bigSep Finset.univ fun e : E => iprop(∃ f, oPts c (sub c e) fullShare f)) ∗ (bigSep Finset.univ fun e : E => P x c (.tk e))
      ∗ (bigSep Finset.univ fun e : E => cred (tallyAt (cell c (kRcv e)) () N))
      ∗ (bigSep Finset.univ fun e : E => P x c (.qS e)) ∗ (bigSep Finset.univ fun e : E => P x c (.qR e))) := by
    unfold ini
    simp only [bigSepL_append, list12, listE]
    rfl
  rw [hi]
  unfold ghost credits
  rw [h3, cut_x]
  iintro ⟨⟨⟨Hbq, ⟨Hb0, Hb1, Hb2⟩, ⟨Hc0, Hc1⟩⟩, Hct, Htk, HqS, HqR⟩, ⟨Hbc, HcR⟩, ⟨Hx, Hrest⟩, Ho, Hst, Hcx⟩
  ihave Ho := (out_some c fo) $$ Ho
  ihave Hcx := (cx_some c fcx) $$ Hcx
  ihave Hst := (st_some c fst) $$ Hst
  icases Hst with ⟨Hs0, Hs1⟩
  isplitr [Hrest]
  · isplitl [Hbc Hbq Hb0 Hb1 Hb2 Hc0 Hc1 Hs0 Hs1]
    · isplitl [Hbc]; · iexact Hbc
      isplitl [Hbq]; · iexact Hbq
      isplitl [Hb0]; · iexact Hb0
      isplitl [Hb1]; · iexact Hb1
      isplitl [Hb2]; · iexact Hb2
      isplitl [Hc0]; · iexact Hc0
      isplitl [Hc1]; · iexact Hc1
      isplitl [Hs0]; · iexact Hs0
      iexact Hs1
    isplitl [Hx]; · iexact Hx
    isplitl [Hct]; · iexact Hct
    isplitl [Hcx]; · iexact Hcx
    isplitl [Ho]; · iexact Ho
    isplitl [Htk]; · iexact Htk
    isplitl [HcR]; · iexact HcR
    isplitl [HqS]; · iexact HqS
    iexact HqR
  iexact Hrest

/-- Where a cell stands once its last round is over. -/
def closing (k : CN) : sProp 𝕄 := atPos ER (cell c k) (lastOf k) ∅ 0

theorem fin_elim :
    iprop(bigSepL fin (P x c) ∗ bigSep Finset.univ fun b : Bool × Fin 10 => xPts c (sub (peer 0 c) (.inr b)) (x c))
      ⊢ iprop((bigSep Finset.univ fun k : CN => closing (F := F) c k) ∗ (((c : Thread nD τ).loc main_arg0) ↦{fullShare} x c)
        ∗ (((c : Thread nD τ).loc cc0_stg1_0) ↦{fullShare} outV x c)
        ∗ (∃ f, ((c : Thread nD τ).loc cc0_scratch0) ↦{fullShare} f) ∗ (∃ f, ((c : Thread nD τ).loc cc0_scratch1) ↦{fullShare} f)) := by
  have hi : bigSepL fin (P x c) = iprop((P x c .bd ∗ (atPos ER (cell c (kCp 0)) 6 ∅ 0 ∗ reached ER (cell c (kCp 0)) 6) ∗ (atPos ER (cell c (kCp 1)) 6 ∅ 0 ∗ reached ER (cell c (kCp 1)) 6)
        ∗ (∃ f, stPts c 0 f) ∗ ∃ f, stPts c 1 f)
      ∗ (bigSep Finset.univ fun k : Fin 12 => xPts c (toSub c (.inl k)) (x c)) ∗ (bigSep Finset.univ fun k : Fin 12 => cxPts c k (cxV x c))
      ∗ (bigSep Finset.univ fun e : E => oPts c (sub c e) fullShare.left (outV x c)) ∗ (bigSep Finset.univ fun e : E => oPts c (sub c e) fullShare.right (outV x c))
      ∗ (bigSep Finset.univ fun e : E => P x c (.dS e)) ∗ (bigSep Finset.univ fun e : E => P x c (.dR e))) := by
    unfold fin
    simp only [bigSepL_append, list12, listE]
    rfl
  have hc : (bigSep Finset.univ fun k : CN => closing (F := F) c k) = iprop(P x c .bd ∗ (atPos ER (cell c (kCp 0)) 6 ∅ 0 ∗ atPos ER (cell c (kCp 1)) 6 ∅ 0)
      ∗ (bigSep Finset.univ fun e : E => P x c (.dS e)) ∗ (bigSep Finset.univ fun e : E => P x c (.dR e))) := by
    have h1 : (bigSep Finset.univ fun u : Unit => closing (F := F) c (.inl u)) = P x c .bd := bigSep_univ_eq_bigSepL [()] (by decide) (by decide) _
    have h2 : (bigSep Finset.univ fun i : Fin 2 => closing (F := F) c (kCp i)) = iprop(atPos ER (cell c (kCp 0)) 6 ∅ 0 ∗ atPos ER (cell c (kCp 1)) 6 ∅ 0) :=
      bigSep_univ_eq_bigSepL [0, 1] (by decide) (by decide) _
    rw [bigSep_univ_sum, h1, bigSep_univ_sum, h2, bigSep_univ_sum]
    rfl
  rw [hi, hc, cut_x]
  iintro ⟨⟨⟨Hbd, ⟨Hc0, -⟩, ⟨Hc1, -⟩, Hs0, Hs1⟩, Hx, Hcx, HL, HR, HdS, HdR⟩, Hrest⟩
  ihave Hst := (join_st (F := F) c (stV x c 0)) $$ [Hs0 Hs1]
  · isplitl [Hs0]; · iexact Hs0
    iexact Hs1
  ihave Ho := (join_out (F := F) c (outV x c)) $$ [HL HR]
  · isplitl [HL]; · iexact HL
    iexact HR
  ihave Hcx := (Entails.of_eq (cut_cx (F := F) c (cxV x c)).symm) $$ Hcx
  isplitl [Hbd Hc0 Hc1 HdS HdR]
  · isplitl [Hbd]; · iexact Hbd
    isplitl [Hc0 Hc1]
    · isplitl [Hc0]; · iexact Hc0
      iexact Hc1
    isplitl [HdS]; · iexact HdS
    iexact HdR
  isplitl [Hx Hrest]
  · isplitl [Hx]; · iexact Hx
    iexact Hrest
  isplitl [Ho]; · iexact Ho
  isplitl [Hst]; · iexact Hst
  iexists (cxV x c); iexact Hcx

/-- Every cell over its last round closes at zero. -/
theorem close_all (K : Dev nD × CN → ℕ) :
    iprop(records x K ∗ bigSep Finset.univ fun k : CN => closing (F := F) c k) ⊢ |={Set.univ}=> bigSep Finset.univ fun k : CN => (semVal (cell c k) 0 : sProp 𝕄) := by
  have h : ∀ k ∈ (Finset.univ : Finset CN), iprop(records x K ∗ closing (F := F) c k) ⊢ |={Set.univ}=> (semVal (cell c k) 0 : sProp 𝕄) := fun k _ =>
    (sep_mono_left (inv_at x K c k)).trans
      (Rounds.cell_close ER (Rd x) (Set.mem_univ (K (c, k))) (fun h => h) (R := lastOf k) (fun r hr => duties_later x c k r hr))
  exact ((sep_mono_left (BI.bigSep_of_persistent Finset.univ (records x K))).trans (by rw [← bigSep_sep']; exact bigSep_mono h)).trans (bigSep_fupd _ _)

end
end Cert.Exch
end
-- ==== Proof.Body.lean ====
/-
# The body on one device

What the table says under the precondition, the pipeline's proof data, and the body from what the launch deals a device to
what it gives back.
-/
module

public import proofs.«01_k».proof.Proof.Gather

@[expose] public section

noncomputable section

namespace Cert.Exch

open Cert.KernelIdeal Cert.KernelIdeal.Gen
open Idealize.ShloMosaic Idealize.ShloMosaic.TcCoe
open Idealize.ShloMosaic.Pipeline (Dat Cfg Window BodyObligation cellOf)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## From the start to the end of the steps -/

/-- What the steps start from, at contents `fo`, `fst`, `fcx` of the result and the two buffers. -/
def before (x : Dev nD → S1x1024x1024.Idx → Elt F .bf16) (c : Dev nD) (fo : S1x1024x1024.Idx → Elt F .bf16) (fst : S2x32x1024.Idx → Elt F .bf16) (fcx : S384x1024.Idx → Elt F .bf16) : sProp 𝕄 :=
  iprop(ghost x c ∗ credits c ∗ (((c : Thread nD τ).loc main_arg0) ↦{fullShare} x c) ∗ (((c : Thread nD τ).loc cc0_stg1_0) ↦{fullShare} fo)
        ∗ (((c : Thread nD τ).loc cc0_scratch0) ↦{fullShare} fst) ∗ (((c : Thread nD τ).loc cc0_scratch1) ↦{fullShare} fcx))

/-- Every semaphore of device `c` at zero. -/
def zeros (c : Dev nD) : sProp 𝕄 := bigSep Finset.univ fun k : CN => (semVal (cell c k) 0 : sProp 𝕄)

/-- What they leave. -/
def behind (x : Dev nD → S1x1024x1024.Idx → Elt F .bf16) (c : Dev nD) : sProp 𝕄 :=
  iprop(zeros c ∗ (((c : Thread nD τ).loc main_arg0) ↦{fullShare} x c)
        ∗ (((c : Thread nD τ).loc cc0_stg1_0) ↦{fullShare} outV x c)
        ∗ (∃ f, ((c : Thread nD τ).loc cc0_scratch0) ↦{fullShare} f) ∗ (∃ f, ((c : Thread nD τ).loc cc0_scratch1) ↦{fullShare} f))

section
variable (x : Dev nD → S1x1024x1024.Idx → Elt F .bf16) (K : Dev nD × CN → ℕ) (c : Dev nD)

theorem names_end {l : List R} (hl : takeAll fin l = some []) : (bigSepL l (P x c) : sProp 𝕄) ⊢ bigSepL fin (P x c) := by
  rw [take_sep (P x c) fin l [] hl]
  exact sep_elim_left

theorem steps_end {l : List R} (hl : takeAll fin l = some []) :
    iprop(records x K ∗ (bigSepL l (P x c) ∗ bigSep Finset.univ fun b : Bool × Fin 10 => xPts c (sub (peer 0 c) (.inr b)) (x c)))
      ⊢ |={Set.univ}=> behind x c := by
  iintro ⟨#Hr, Hl, Hx⟩
  ihave Hf := (names_end x c hl) $$ Hl
  ihave H := (fin_elim x c) $$ [Hf Hx]
  · isplitl [Hf] <;> iassumption
  icases H with ⟨Hc, Hx, Ho, Hs, Hb⟩
  imod (close_all x c K) $$ [Hc] with Hz
  · isplitr; · iexact Hr
    iexact Hc
  imodintro
  unfold behind zeros
  isplitl [Hz]; · iexact Hz
  isplitl [Hx]; · iexact Hx
  isplitl [Ho]; · iexact Ho
  isplitl [Hs] <;> iassumption

theorem run_all (v : Elt F .i32) (hw : k0_chk1 c v) (hS : ∀ a, toS (F := F) c v hw a = peer a c) (hE : ∀ e, toE (F := F) c v hw e = peer (ax e) c)
    (fo : S1x1024x1024.Idx → Elt F .bf16) (fst : S2x32x1024.Idx → Elt F .bf16) (fcx : S384x1024.Idx → Elt F .bf16) (Qt : PUnit → sProp 𝕄) :
    iprop(records x K ∗ before x c fo fst fcx ∗ owing c owed0)
      ⊢ iprop((behind x c ∗ owing c [] -∗ Qt ⟨⟩)
          -∗ wp frame (wpE (defs₀ (F := F)) 𝒱₀ (c : Thread nD τ) none) Set.univ (progOf (F := F) c v hw steps) Qt) := by
  obtain ⟨l, hx, hl⟩ := play
  iintro ⟨#Hr, Hb, HO⟩ Hk
  unfold before
  ihave H := (ini_intro x c fo fst fcx) $$ Hb
  icases H with ⟨Hi, Hrest⟩
  iapply (run_sound x K c v hw hS hE Qt steps ini l owed0 [] hx) $$ [Hi HO]
  · isplitr; · iexact Hr
    isplitl [Hi] <;> iassumption
  iintro ⟨Hl, HO⟩
  imod (steps_end x K c hl) $$ [Hl Hrest] with H
  · isplitr; · iexact Hr
    isplitl [Hl] <;> iassumption
  rw [Prog.pure_eq_ret, wp_ret]; imodintro
  iapply Hk
  isplitl [H] <;> iassumption

end

/-! ## The table -/

variable (m : (ℓ : Loc nD τ sig) → Buf (Elt F) ℓ) (ρ : Dev nD → PrngReg)

/-- Device `c`'s table. -/
abbrev piOf (c : Dev nD) : IVec S2 32 := m ((c : Thread nD τ).loc main_arg1)
/-- Its block of the argument. -/
abbrev xOf (c : Dev nD) : S1x1024x1024.Idx → Elt F .bf16 := m ((c : Thread nD τ).loc main_arg0)

/-- What the proof asks of the launch memory: every device's table swaps 0 and 1. -/
def Swaps : Prop := ∀ (c : Dev nD) (j : S2.Idx), piOf m c j = BitVec.ofNat 32 (1 - (j 0).val)

/-- The launch state: that memory, every semaphore at zero. -/
def s₀ : MemSt nD τ sig (Elt F) := ⟨m, fun _ => 0, ρ⟩

/-- The table as staged, and the word read from it. -/
def pstg (c : Dev nD) : (cc0_stg0_0 : Ref sig .tc).ty.Contents (Elt F) :=
  (win0_0.blk (0 : Fin 1)).view.read (Elt F) ((s₀ m ρ).mem ((c : Thread nD τ).loc main_arg1))
abbrev r1 (c : Dev nD) : Rect S2 := Rect.unit (s := S2) (k0_off1 c) S1.size (k0_off1_inb c)
abbrev word (c : Dev nD) (ts : (cc0_stg0_0 : Ref sig .tc).ty.Contents (Elt F)) : BitVec 32 :=
  ((Memref.whole cc0_stg0_0).access (r1 c) : View sig .tc _ _ _).read (Elt F) ts (Shape.Idx.first (s := S1) (numel1_S1.symm ▸ Nat.one_pos))

/-- The entry of the table device `c` reads. -/
def entry (c : Dev nD) : S2.Idx := fun a => ⟨0 + c.val / 4, by have : c.val < 8 := c.isLt; fin_cases a; show 0 + c.val / 4 < 2; omega⟩

omit [FloatOps F] in
theorem word_pstg (c : Dev nD) : word c (pstg m ρ c) = piOf m c (entry c) := by
  show m ((c : Thread nD τ).loc main_arg1) _ = _
  refine congrArg _ (funext fun a => Fin.ext ?_)
  fin_cases a; fin_cases c <;> rfl

/-- The word the table gives device `c` when it swaps. -/
abbrev wordOf (c : Dev nD) : BitVec 32 := BitVec.ofNat 32 (1 - c.val / 4)

variable {m} in
theorem Swaps.word (h : Swaps m) (c : Dev nD) : word c (pstg m ρ c) = wordOf c := by
  rw [word_pstg, h]; show BitVec.ofNat 32 (1 - (0 + c.val / 4)) = _; rw [Nat.zero_add]

theorem chk_word : ∀ c : Dev nD, k0_chk1 c (wordOf c) := by decide +kernel
theorem dev_word : ∀ c : Dev nD, k0_dev1 c (wordOf c) = (peer 0 c).val ∧ k0_dev2 c = (peer 1 c).val ∧ k0_dev3 c = (peer 2 c).val
    ∧ k0_dev4 c (wordOf c) = (peer 0 c).val ∧ k0_dev16 c = (peer 1 c).val ∧ k0_dev17 c = (peer 2 c).val := by decide +kernel

theorem toS_word (c : Dev nD) (v : Elt F .i32) (hw : k0_chk1 c v) (hv : v = wordOf c) (a : Ax) : toS (F := F) c v hw a = peer a c := by
  subst hv
  obtain ⟨h1, h2, h3, -⟩ := dev_word c
  fin_cases a
  · exact Fin.ext h1
  · exact Fin.ext h2
  · exact Fin.ext h3
theorem toE_word (c : Dev nD) (v : Elt F .i32) (hw : k0_chk1 c v) (hv : v = wordOf c) (e : E) : toE (F := F) c v hw e = peer (ax e) c := by
  subst hv
  obtain ⟨-, -, -, h4, h16, h17⟩ := dev_word c
  rcases e with k | ⟨_ | _, k⟩
  · exact Fin.ext h4
  · exact Fin.ext h16
  · exact Fin.ext h17

variable {m} in
theorem Swaps.chk (h : Swaps m) (c : Dev nD) : k0_chk1 c (Cert.Exch.word c (pstg m ρ c)) := by rw [h.word ρ c]; exact chk_word c

/-! ## The pipeline's proof data -/

/-- Device `c`'s invariants and its positions and duties, at the names the launch gave the invariants. -/
def start (c : Dev nD) : sProp 𝕄 :=
  iprop((∃ K, records (xOf m) K) ∗ ghost (xOf m) c ∗ credits c ∗ (((c : Thread nD τ).loc main_arg0) ↦{fullShare} xOf m c))

/-- The two scratch buffers. -/
abbrev bufs (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

def Φ₀ (c : Dev nD) : sProp 𝕄 := iprop(start m c ∗ bufs c)
def Φ₁ (c : Dev nD) : sProp 𝕄 := iprop(zeros c ∗ (((c : Thread nD τ).loc main_arg0) ↦{fullShare} xOf m c) ∗ bufs c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => pstg m ρ c
    | ⟨1, _⟩ => outV (xOf m) c
  Φ t := match t with
    | ⟨0, _⟩ => Φ₀ m c
    | ⟨_ + 1, _⟩ => Φ₁ m c
  q _ := fullShare
  owed t := match t with
    | ⟨0, _⟩ => owed c owed0
    | ⟨_ + 1, _⟩ => 0

theorem fetch_0 (t : Fin cfg0.N) : (cfg0.win (0 : Fin 2)).fetch t = true := by rw [fin_N0 t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body -/

/-- Staging buffer `b` holding `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))

def bodyPost (c : Dev nD) : sProp 𝕄 :=
  iprop(Φ₁ m c ∗ (dats m ρ 0 c).owesAt () t0_0.succ ∗ stg c cc0_stg0_0 (pstg m ρ c) ∗ stg c cc0_stg1_0 (outV (xOf m) c))

set_option maxHeartbeats 1000000 in
theorem sound_body (hsw : Swaps m) (c : Dev nD) (Kt : PUnit → sProp 𝕄) :
    iprop(bodyPre m ρ c ∗ (bodyPost m ρ c -∗ Kt ⟨⟩))
      ⊢ wp frame (wpE (defs₀ (F := F)) 𝒱₀ (c : Thread nD τ) none) Set.univ (bodyProg (F := F)) Kt := by
  unfold bodyProg
  simp only [smemLoad, smemLoadElt, Prog.lift, Prog.bind_op, Prog.bind_ret, Prog.pure_eq_ret, Prog.bind_assoc, wp_deviceId]
  unfold bodyPre Φ₀ start
  iintro ⟨⟨⟨⟨⟨%K, #Hr⟩, Hg, Hc, Hx⟩, ⟨%f0, Hs0⟩, ⟨%f1, Hs1⟩⟩, Ho, ⟨%d0, %g0, %hg0, Ht⟩, ⟨%d1, %g1, %hg1, Hout⟩⟩, Hk⟩
  have ht : g0 = pstg m ρ c := by rw [hg0]; unfold Dat.before; rw [if_pos (fetch_0 t0_0)]; rfl
  subst ht
  unfold Dat.owesAt Pipeline.owesWithin
  icases Ho with ⟨%W, %hW, HO⟩
  rw [show (dats m ρ 0 c).owed t0_0.castSucc = owed c owed0 from rfl]
  iapply (wp_load_rect 𝒱₀ (c : Thread nD τ) none Set.univ (m := piM) (r := r1 c) (Finset.subset_univ _)) $$ Ht; iintro Ht
  simp only [wp_assume_of _ _ _ _ (d := k0_chk1.dec _ _) (hsw.chk ρ c)]
  iapply (run_all (xOf m) K c (word c (pstg m ρ c)) (hsw.chk ρ c) (toS_word c _ _ (hsw.word ρ c)) (toE_word c _ _ (hsw.word ρ c)) g1 f0 f1 Kt) $$ [Hg Hc Hx Hs0 Hs1 Hout HO]
  · isplitr; · iexact Hr
    isplitr [HO]
    · unfold before
      isplitl [Hg]; · iexact Hg
      isplitl [Hc]; · iexact Hc
      isplitl [Hx]; · iexact Hx
      isplitl [Hout]; · iexact Hout
      isplitl [Hs0] <;> iassumption
    · unfold owing; iexists W; iexact HO
  iintro ⟨Hb, HO⟩
  iapply Hk
  unfold behind owing
  icases Hb with ⟨Hz, Hx, Hout, Hs0, Hs1⟩
  icases HO with ⟨%W', HO⟩
  unfold bodyPost Φ₁ Dat.owesAt Pipeline.owesWithin
  rw [show (dats m ρ 0 c).owed t0_0.succ = owed c [] from rfl]
  isplitl [Hz Hx Hs0 Hs1]
  · isplitl [Hz]; · iexact Hz
    isplitl [Hx]; · iexact Hx
    isplitl [Hs0] <;> iassumption
  isplitl [HO]
  · iexists W'
    isplitr; · ipureintro; exact fun _ _ => Or.inl trivial
    iexact HO
  isplitl [Ht]
  · iexists _; isplitr; · (ipureintro; rfl)
    iexact Ht
  iexists _; isplitr; · (ipureintro; rfl)
  iexact Hout

set_option maxRecDepth 100000 in
/-- The obligation of the library's launch on device `c`. -/
theorem body_obligation (hsw : Swaps m) (c : Dev nD) : BodyObligation (dats (F := F) m ρ 0 c) (defs₀ (F := F)) 𝒱₀ () Set.univ := fun t => by
  rw [fin_N0 t]
  rw [bigSep_W0, bigSep_W0]
  simp only [owns_whole_eq]
  show bodyPre m ρ c ⊢ wp frame (wpE (defs₀ (F := F)) 𝒱₀ (c : Thread nD τ) none) Set.univ
    (cc0_body (F := F) xM (Memref.isWhole_whole _) piM (Memref.isWhole_whole _) oM (Memref.isWhole_whole _) stM (Memref.isWhole_whole _) cxM (Memref.isWhole_whole _)
      cc0_scratch2 cc0_scratch3 cc0_scratch4 cc0_scratch5 cc0_scratch6 cc0_scratch7 cc0_scratch8) (fun _ => bodyPost m ρ c)
  rw [body_eq]
  iintro H
  iapply (sound_body m ρ hsw c fun _ => bodyPost m ρ c)
  isplitl [H]; · iexact H
  iintro H; iexact H

end Cert.Exch
end
-- ==== Proof.Tokens.lean ====
/-
# Semaphores and duties at the launch

Every device's semaphores become the exchange's cells, and the duties minted for them go to the devices that pay them.
-/
module

public import proofs.«01_k».proof.Proof.Body

@[expose] public section

noncomputable section

namespace Cert.Exch

open Cert.KernelIdeal Cert.KernelIdeal.Gen
open Idealize.ShloMosaic Idealize.ShloMosaic.TcCoe
open Idealize.ShloMosaic.Pipeline (Dat Cfg Window BodyObligation cellOf)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Cells and duties -/

def cellEmb : Dev nD × CN ↪ GSem nD τ sig :=
  ⟨fun ck => cell ck.1 ck.2, fun a b h => Prod.ext (cell_inj h).1 (cell_inj h).2⟩
def exchCells : Finset (GSem nD τ sig) := Finset.univ.map cellEmb

/-- A device's duties: the three of its barrier, one for each local copy, one for each piece sent, one for each received. -/
abbrev Tok : Type := Ax ⊕ (Fin 12 ⊕ (E ⊕ E))
def tokKey : Tok → CN × ℕ × Fin 3
  | .inl a => (kBar, 0, a)
  | .inr (.inl k) => (kCp (slot k), k.val / 2, 0)
  | .inr (.inr (.inl e)) => (kSnd e, 0, 0)
  | .inr (.inr (.inr e)) => (kRcv e, 0, 0)
instance : DecidableEq Tok := instDecidableEqSum
set_option maxRecDepth 100000 in
theorem tokKey_injective : Function.Injective tokKey := by
  rintro (a | k | e | e) (a' | k' | e' | e') h
  case inl.inl => exact congrArg Sum.inl (congrArg (fun t => t.2.2) h)
  case inr.inl.inr.inl =>
    have h1 : slot k = slot k' := Sum.inl.inj (Sum.inr.inj (congrArg Prod.fst h))
    have h2 : k.val / 2 = k'.val / 2 := congrArg (fun t => t.2.1) h
    have h3 : k.val % 2 = k'.val % 2 := congrArg Fin.val h1
    have : k = k' := Fin.ext (by omega)
    rw [this]
  case inr.inr.inl.inr.inr.inl => exact congrArg (fun e => Sum.inr (Sum.inr (Sum.inl e))) (Sum.inl.inj (Sum.inr.inj (Sum.inr.inj (congrArg Prod.fst h))))
  case inr.inr.inr.inr.inr.inr => exact congrArg (fun e => Sum.inr (Sum.inr (Sum.inr e))) (Sum.inr.inj (Sum.inr.inj (Sum.inr.inj (congrArg Prod.fst h))))
  all_goals exact absurd (congrArg Prod.fst h) (by intro h'; cases h')

def tokEmb : Dev nD × Tok ↪ GSem nD τ sig × ℕ × Fin 3 :=
  ⟨fun ct => (cell ct.1 (tokKey ct.2).1, (tokKey ct.2).2), fun a b h => by
    have h1 := cell_inj (congrArg Prod.fst h)
    have h2 : (tokKey a.2).2 = (tokKey b.2).2 := congrArg (fun t : GSem nD τ sig × ℕ × Fin 3 => t.2) h
    exact Prod.ext h1.1 (tokKey_injective (Prod.ext h1.2 h2))⟩
def exchToks : Finset (GSem nD τ sig × ℕ × Fin 3) := Finset.univ.map tokEmb

def u₀ : UU := (initOf (Pipeline.cells cfgs cellOf_inj) (Pipeline.launchToks cfgs cellOf_inj), initOf exchCells exchToks)

/-- The duties of device `c`'s own cells; -/
def toks (c : Dev nD) : sProp 𝕄 :=
  iprop((bigSep Finset.univ fun a : Ax => dutyTok ER (cell c kBar) 0 a) ∗ (bigSep Finset.univ fun k : Fin 12 => dutyTok ER (cell c (kCp (slot k))) (k.val / 2) 0)
    ∗ (bigSep Finset.univ fun e : E => dutyTok ER (cell c (kSnd e)) 0 0) ∗ (bigSep Finset.univ fun e : E => dutyTok ER (cell c (kRcv e)) 0 0))
/-- the duties it pays. -/
def payToks (c : Dev nD) : sProp 𝕄 :=
  iprop((bigSep Finset.univ fun a : Ax => dutyTok ER (cell (peer a c) kBar) 0 a) ∗ (bigSep Finset.univ fun k : Fin 12 => dutyTok ER (cell c (kCp (slot k))) (k.val / 2) 0)
    ∗ (bigSep Finset.univ fun e : E => dutyTok ER (cell c (kSnd e)) 0 0) ∗ (bigSep Finset.univ fun e : E => dutyTok ER (cell (peer (ax e) c) (kRcv e)) 0 0))

section
omit [FloatOps F]

/-- Dealt across the axes: what every device has for each `i` goes to its neighbour on `i`'s axis. -/
def across {I : Type} (f : I → Ax) : Dev nD × I ≃ Dev nD × I where
  toFun p := (peer (f p.2) p.1, p.2)
  invFun p := (peer (f p.2) p.1, p.2)
  left_inv p := Prod.ext (peer_peer _ _) rfl
  right_inv p := Prod.ext (peer_peer _ _) rfl

theorem deal {I : Type} [Fintype I] (f : I → Ax) (Φ : Dev nD → I → sProp 𝕄) :
    (bigSep Finset.univ fun c : Dev nD => bigSep Finset.univ fun i : I => Φ c i) = bigSep Finset.univ fun c : Dev nD => bigSep Finset.univ fun i : I => Φ (peer (f i) c) i := by
  rw [← bigSep_univ_prod (fun p : Dev nD × I => Φ p.1 p.2), bigSep_univ_equiv (across f) (fun p : Dev nD × I => Φ p.1 p.2)]
  exact bigSep_univ_prod fun p : Dev nD × I => Φ (peer (f p.2) p.1) p.2

theorem toks_dealt : (bigSep Finset.univ fun c : Dev nD => (toks c : sProp 𝕄)) = bigSep Finset.univ fun c : Dev nD => payToks c := by
  unfold toks payToks
  simp only [bigSep_sep']
  rw [deal (fun a : Ax => a) (fun c a => (dutyTok ER (cell c kBar) 0 a : sProp 𝕄)), deal ax (fun c e => (dutyTok ER (cell c (kRcv e)) 0 0 : sProp 𝕄))]

theorem toks_eq (c : Dev nD) : (bigSep Finset.univ fun t : Tok => (dutyTok ER (cell c (tokKey t).1) (tokKey t).2.1 (tokKey t).2.2 : sProp 𝕄)) = toks c := by
  rw [bigSep_univ_sum, bigSep_univ_sum, bigSep_univ_sum]; rfl
end

section
variable (x : Dev nD → S1x1024x1024.Idx → Elt F .bf16)

/-- What a device starts from: its cells unopened, its positions, that round 0 is reached, its cells' duties. -/
def G (c : Dev nD) : sProp 𝕄 :=
  iprop((bigSep Finset.univ fun k : CN => roundState ER (Rd x) (cell c k) 0)
    ∗ (bigSep Finset.univ fun k : CN => atPos ER (cell c k) 0 ∅ 0) ∗ (bigSep Finset.univ fun k : CN => reached ER (cell c k) 0) ∗ toks c)

/-- The facts about every cell, before the levels are known. -/
def facts0 (K : Dev nD × CN → ℕ) : sProp 𝕄 :=
  iprop((bigSep Finset.univ fun ck : Dev nD × CN => cellInv ER (Rd x) (K ck) (cell ck.1 ck.2))
    ∗ bigSep Finset.univ fun ck : Dev nD × CN => reached ER (cell ck.1 ck.2) 0)
instance facts0_persistent (K : Dev nD × CN → ℕ) : BI.Persistent (facts0 x K) := by unfold facts0; infer_instance

/-- What it goes on with. -/
def G' (c : Dev nD) : sProp 𝕄 := iprop(∃ K, facts0 x K ∗ ghost x c)

theorem fund : BI.own (ER (initOf exchCells exchToks)) ⊢ (|==> bigSep Finset.univ (G x) : sProp 𝕄) := by
  have hX (Φ : GSem nD τ sig → sProp 𝕄) : bigSep exchCells Φ = bigSep Finset.univ fun c : Dev nD => bigSep Finset.univ fun k : CN => Φ (cell c k) := by
    unfold exchCells; rw [bigSep_map, bigSep_univ_prod]; rfl
  have hT : bigSep exchToks (fun t => (dutyTok ER t.1 t.2.1 t.2.2 : sProp 𝕄)) = bigSep Finset.univ fun c : Dev nD => toks c := by
    unfold exchToks; rw [bigSep_map, bigSep_univ_prod]
    exact bigSep_congr fun c _ => toks_eq c
  iintro HX
  imod (Rounds.fund ER (Rd x) exchCells exchToks) $$ HX with ⟨Hst, Hr, Hat, Htok⟩
  imodintro
  ihave Hst' := (Entails.of_eq (hX fun g => roundState ER (Rd x) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat']; · iexact Hat'
  isplitl [Hr'] <;> iassumption

omit [FloatOps F] in
theorem unscopedSems0_eq (c : Dev nD) : (unscopedSems0 c : sProp 𝕄) = semVal (cell c kBar) 0 := by
  unfold unscopedSems0; rw [bigSep_eq_bigSepL_of_eq [SemLoc.reg barS] (by decide) (by decide)]; rfl
omit [FloatOps F] in
/-- A device's semaphores at zero: the launch's own ones and the runtime's barrier. -/
theorem zeros_eq (c : Dev nD) : (zeros c : sProp 𝕄) = iprop(unscopedSems0 c ∗ Pipeline.ownSems0 (τ := τ) osem c) := by
  unfold zeros; rw [unscopedSems0_eq, bigSep_univ_sum, bigSep_univ_eq_bigSepL [()] (by decide) (by decide) (fun a : Unit => (semVal (cell c (.inl a)) 0 : sProp 𝕄))]; rfl

/-- The cells' invariants are allocated. -/
theorem core_alloc (c : Dev nD) :
    iprop(Pipeline.ownSems0 (Ix := Unit) (Name := ℕ) (U := UU) (Lvl := ℕ) (Val := Elt F) (τ := τ) osem c ∗ unscopedSems0 c ∗ G x c)
      ⊢ |={Set.univ}=> iprop((bigSep Finset.univ fun k : CN => iprop(∃ κ : ℕ, cellInv ER (Rd x) κ (cell c k)))
          ∗ (bigSep Finset.univ fun k : CN => atPos ER (cell c k) 0 ∅ 0) ∗ (bigSep Finset.univ fun k : CN => reached ER (cell c k) 0) ∗ toks c) := by
  unfold G
  iintro ⟨Hos, Hus, Hst, Hrest⟩
  ihave Hv := (Entails.of_eq (zeros_eq (F := F) c).symm) $$ [Hos Hus]
  · isplitl [Hus] <;> iassumption
  unfold zeros
  imod (show iprop((bigSep Finset.univ fun k : CN => semVal (cell c k) 0) ∗ bigSep Finset.univ fun k : CN => roundState ER (Rd x) (cell c k) 0)
      ⊢ (|={Set.univ}=> bigSep Finset.univ fun k => iprop(∃ κ : ℕ, cellInv ER (Rd x) κ (cell c k)) : sProp 𝕄) from by
        rw [← bigSep_sep']
        exact (bigSep_mono fun k _ => (Rounds.body_intro ER (Rd x) (cell c k)).trans inv_alloc).trans (bigSep_fupd _ _)) $$ [Hv Hst] with Hinv
  · isplitl [Hv] <;> iassumption
  imodintro
  isplitl [Hinv]; · iexact Hinv
  iexact Hrest

/-- What stays with a device: its positions and the duties it pays. -/
def linear (c : Dev nD) : sProp 𝕄 := iprop((bigSep Finset.univ fun k : CN => atPos ER (cell c k) 0 ∅ 0) ∗ payToks c)

omit [FloatOps F] in
theorem posts_eq (Φ : CN → sProp 𝕄) : bigSep Finset.univ Φ
    = iprop(Φ kBar ∗ (Φ (kCp 0) ∗ Φ (kCp 1)) ∗ (bigSep Finset.univ fun e : E => Φ (kSnd e)) ∗ bigSep Finset.univ fun e : E => Φ (kRcv e)) := by
  rw [bigSep_univ_sum, bigSep_univ_sum, bigSep_univ_sum, two (fun i => Φ (.inr (.inl i))), bigSep_univ_eq_bigSepL [()] (by decide) (by decide) (fun a : Unit => Φ (.inl a))]; rfl

theorem facts_reach (K : Dev nD × CN → ℕ) (c : Dev nD) (k : CN) : facts0 x K ⊢ reached ER (cell c k) 0 := by
  unfold facts0; iintro ⟨-, HR⟩
  iapply (reach_elim c k); iexact HR

theorem ghost_intro (K : Dev nD × CN → ℕ) (c : Dev nD) : iprop(facts0 x K ∗ linear c) ⊢ G' x c := by
  unfold linear payToks G' ghost
  rw [posts_eq fun k => (atPos ER (cell c k) 0 ∅ 0 : sProp 𝕄)]
  have htk : (bigSep Finset.univ fun e : E => (P x c (.tk e) : sProp 𝕄))
      = iprop((bigSep Finset.univ fun e : E => dutyTok ER (cell c (kSnd e)) 0 0) ∗ bigSep Finset.univ fun e : E => dutyTok ER (cell (peer (ax e) c) (kRcv e)) 0 0) :=
    bigSep_sep' Finset.univ (fun e : E => (dutyTok ER (cell c (kSnd e)) 0 0 : sProp 𝕄)) fun e => dutyTok ER (cell (peer (ax e) c) (kRcv e)) 0 0
  rw [htk]
  iintro ⟨#HF, ⟨HaB, ⟨Ha0, Ha1⟩, HaS, HaR⟩, HtB, HtC, HtS, HtR⟩
  iexists K
  isplitr; · iexact HF
  isplitl [HaB HtB Ha0 Ha1]
  · isplitl [HaB]; · iexact HaB
    isplitl [HtB]; · iexact HtB
    isplitl [Ha0]
    · unfold P
      isplitl; · iexact Ha0
      iapply (facts_reach x K c (kCp 0)); iexact HF
    · unfold P
      isplitl; · iexact Ha1
      iapply (facts_reach x K c (kCp 1)); iexact HF
  isplitl [HtC]; · iexact HtC
  isplitl [HtS HtR]
  · isplitl [HtS] <;> iassumption
  isplitl [HaS]; · iexact HaS
  iexact HaR

theorem regroup :
    (bigSep Finset.univ fun c : Dev nD => iprop((bigSep Finset.univ fun k : CN => iprop(∃ κ : ℕ, cellInv ER (Rd x) κ (cell c k)))
          ∗ (bigSep Finset.univ fun k : CN => atPos ER (cell c k) 0 ∅ 0) ∗ (bigSep Finset.univ fun k : CN => reached ER (cell c k) 0) ∗ toks c) : sProp 𝕄)
      ⊢ bigSep Finset.univ (G' x) := by
  rw [bigSep_sep', bigSep_sep', bigSep_sep', ← bigSep_univ_prod (fun ck : Dev nD × CN => iprop(∃ κ : ℕ, cellInv ER (Rd x) κ (cell ck.1 ck.2))),
    ← bigSep_univ_prod (fun ck : Dev nD × CN => (reached ER (cell ck.1 ck.2) 0 : sProp 𝕄)), toks_dealt]
  iintro ⟨HI, Hat, #HR, Htok⟩
  ihave HK := (BI.bigSep_exists_pi Finset.univ (fun (ck : Dev nD × CN) (κ : ℕ) => (cellInv ER (Rd x) κ (cell ck.1 ck.2) : sProp 𝕄))) $$ HI
  icases HK with ⟨%K, #HI⟩
  iapply ((sep_mono_left (BI.bigSep_of_persistent Finset.univ (facts0 x K))).trans
    (show iprop((bigSep Finset.univ fun _ : Dev nD => facts0 x K) ∗ bigSep Finset.univ fun c : Dev nD => linear c) ⊢ bigSep Finset.univ (G' x) from by
      rw [← bigSep_sep']; exact bigSep_mono fun c _ => ghost_intro x K c))
  isplitr
  · unfold facts0; isplitl; · iexact HI
    iexact HR
  · unfold linear; rw [bigSep_sep']
    isplitl [Hat] <;> iassumption

/-- All devices' semaphores at once. -/
theorem glob : (bigSep Finset.univ fun c => iprop(Pipeline.ownSems0 (Ix := Unit) (Name := ℕ) (U := UU) (Lvl := ℕ) (Val := Elt F) (τ := τ) osem c ∗ unscopedSems0 c ∗ G x c) : sProp 𝕄)
    ⊢ |={Set.univ}=> bigSep Finset.univ (G' x) :=
  ((bigSep_mono fun c _ => core_alloc x c).trans (bigSep_fupd _ _)).trans (BI.fupd_mono (regroup x))

end

end Cert.Exch
end
-- ==== Proof.Credits.lean ====
/-
# Credits at the launch

What all devices together owe a semaphore is what its owner may wait for.
-/
module

public import proofs.«01_k».proof.Proof.Body

@[expose] public section

noncomputable section

namespace Cert.Exch

open Cert.KernelIdeal Cert.KernelIdeal.Gen
open Idealize.ShloMosaic Idealize.ShloMosaic.TcCoe
open Idealize.ShloMosaic.Pipeline (Dat Cfg Window BodyObligation cellOf)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The axis a payment crosses. -/
def payAx : Pay → Ax
  | .inl a => a
  | .inr e => ax e
theorem payTo_eq (d : Dev nD) (p : Pay) : payTo d p = peer (payAx p) d := by rcases p with a | e <;> rfl

/-- How much of a list of payments goes to cell `k` of whoever is paid. -/
def total (k : CN) : List Pay → ℕ
  | [] => 0
  | p :: l => total k l + if payKey p = k then payAmt p else 0

theorem tally_at (d c : Dev nD) (k : CN) (p : Pay) : tally d p (cell c k) () = if d = peer (payAx p) c then (if payKey p = k then payAmt p else 0) else 0 := by
  unfold tally
  rw [tallyAt_apply]
  by_cases hk : payKey p = k
  · by_cases hd : d = peer (payAx p) c
    · rw [if_pos hd, if_pos hk, if_pos ⟨by rw [payTo_eq, hd, peer_peer, hk], rfl⟩]
    · rw [if_neg hd, if_neg fun h => hd (by rw [(cell_inj h.1).1, payTo_eq, peer_peer])]
  · rw [if_neg hk, ite_self, if_neg fun h => hk (cell_inj h.1).2.symm]

theorem owed_sum (c : Dev nD) (k : CN) : ∀ l : List Pay, ∑ d : Dev nD, owed d l (cell c k) () = total k l
  | [] => Finset.sum_eq_zero fun d _ => rfl
  | p :: l => by
    have h : ∀ d : Dev nD, owed d (p :: l) (cell c k) () = owed d l (cell c k) () + tally d p (cell c k) () := fun d => rfl
    rw [Finset.sum_congr rfl fun d _ => h d, Finset.sum_add_distrib, owed_sum c k l, Finset.sum_congr rfl fun d _ => tally_at d c k p,
      Finset.sum_ite_eq' Finset.univ (peer (payAx p) c) fun _ => if payKey p = k then payAmt p else 0, if_pos (Finset.mem_univ _)]
    rfl

set_option maxRecDepth 100000 in
theorem total_bar : total kBar owed0 = 3 := by decide +kernel
set_option maxRecDepth 100000 in
theorem total_rcv : ∀ e : E, total (kRcv e) owed0 = N := by decide +kernel

/-- What device `d` owes at the launch. -/
abbrev O₀ (d : Dev nD) : CellTallies nD τ sig Unit := owed d owed0

theorem launch_at (c : Dev nD) (k : CN) (n : ℕ) (h : total k owed0 = n) :
    tallyOn (cell c k) (launchCredit (Pipeline.owing O₀) 0 (cell c k)) = (tallyAt (cell c k) () n : CellTallies nD τ sig Unit) := by
  unfold tallyAt; refine congrArg _ (Finsupp.ext fun u => ?_); cases u
  rw [Pipeline.launchCredit_owing, Finsupp.single_eq_same, owed_sum, h]

omit [FloatOps F] in
theorem credits_intro (c : Dev nD) : (Pipeline.launchCred O₀ c : sProp 𝕄) ⊢ credits c := by
  have h : (Pipeline.launchCred O₀ c : sProp 𝕄) ⊢ bigSep Finset.univ fun k : CN => cred (tallyOn (cell c k) (launchCredit (Pipeline.owing O₀) 0 (cell c k))) := by
    unfold Pipeline.launchCred
    exact (bigSep_subset (Finset.subset_univ (Finset.univ.map ⟨csem, csem_injective⟩))).trans (Entails.of_eq (bigSep_map ⟨csem, csem_injective⟩))
  refine h.trans ?_
  rw [bigSep_univ_sum, bigSep_univ_sum, bigSep_univ_sum, bigSep_univ_eq_bigSepL [()] (by decide) (by decide) (fun a : Unit => (cred (tallyOn (cell c (.inl a)) (launchCredit (Pipeline.owing O₀) 0 (cell c (.inl a)))) : sProp 𝕄))]
  have hb : (bigSepL [()] fun a : Unit => (cred (tallyOn (cell c (.inl a)) (launchCredit (Pipeline.owing O₀) 0 (cell c (.inl a)))) : sProp 𝕄)) = cred (tallyAt (cell c kBar) () 3) :=
    congrArg (fun t => (cred t : sProp 𝕄)) (launch_at c kBar 3 total_bar)
  have hr : (bigSep Finset.univ fun e : E => (cred (tallyOn (cell c (kRcv e)) (launchCredit (Pipeline.owing O₀) 0 (cell c (kRcv e)))) : sProp 𝕄))
      = bigSep Finset.univ fun e : E => cred (tallyAt (cell c (kRcv e)) () N) :=
    bigSep_congr fun e _ => congrArg (fun t => (cred t : sProp 𝕄)) (launch_at c (kRcv e) N (total_rcv e))
  rw [hb, hr]
  unfold credits
  exact sep_mono_right (sep_elim_right.trans sep_elim_right)

end Cert.Exch
end
-- ==== Proof.Launch.lean ====
/-
# The launch

The run of the whole program on all devices: every execution ends, with the result filled, the arguments kept and every
semaphore at zero.
-/
module

public import proofs.«01_k».proof.Proof.Tokens
public import proofs.«01_k».proof.Proof.Credits
public import Idealize.ShloMosaic.Lib.Pipeline.CollectiveSegs

@[expose] public section

noncomputable section

namespace Cert.Exch

open Cert.KernelIdeal Cert.KernelIdeal.Gen
open Idealize.ShloMosaic Idealize.ShloMosaic.TcCoe
open Idealize.ShloMosaic.Pipeline (Dat Cfg Window BodyObligation cellOf)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

theorem share_eq (c : Dev nD) (w : Fin cfg0.W) : (dats m ρ 0 c).share w = fullShare := by unfold Dat.share; split <;> rfl

/-- What leaves a device at the end: its unscoped semaphore at zero and its block of the argument. -/
def left (c : Dev nD) : sProp 𝕄 := iprop(unscopedSems0 c ∗ (((c : Thread nD τ).loc main_arg0) ↦{fullShare} xOf m c))

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (xOf m) c)
      ⊢ |={Set.univ}=> iprop(start m c ∗ emp) := by
  rw [Pipeline.unscopedRestP_none, unscopedRest0_eq]
  unfold G'
  iintro ⟨Hx, #Hlev, Hcr, -, ⟨%K, #HF, Hg⟩⟩
  ihave Hc := (credits_intro (F := F) c) $$ Hcr
  imodintro
  unfold start
  isplitl
  · isplitr
    · iexists K
      unfold records facts0
      isplitl; · iexact HF
      iexact Hlev
    isplitl [Hg]; · iexact Hg
    isplitl [Hc]; · iexact Hc
    iexact Hx
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  iintro ⟨Hs, -, Hr⟩
  isplitl [Hs]; · iexact Hs
  iexact Hr

theorem phi1_exit (c : Dev nD) :
    (dats m ρ 0 c).Φ (Fin.last cfg0.N) ⊢ iprop(left m c ∗ Pipeline.ownSems0 osem c ∗ Pipeline.scopedRest cfg0.spec c) := by
  rw [show (dats m ρ 0 c).Φ (Fin.last cfg0.N) = Φ₁ m c from rfl, scopedRest0_eq]
  unfold Φ₁ left
  rw [zeros_eq]
  iintro ⟨⟨Hu, Ho⟩, Hx, Hr⟩
  isplitl [Hu Hx]
  · isplitl [Hu] <;> iassumption
  isplitl [Ho]; · iexact Ho
  iexact Hr

/-- No window's semaphore is one of the exchange's. -/
theorem window_role : ∀ (w : Fin 2) (s : Fin (cfg0.win w).nbuf) (k : CN), csem k ≠ .dma ((cfg0.win w).sem s) := by decide +kernel

theorem owed0_above : ∀ p ∈ owed0, 0 < lvOf (payKey p) := by decide +kernel

theorem waits_ok (c : Dev nD) : (levAts L lv : sProp 𝕄) ⊢ Pipeline.cellsWaits cfgs (dats m ρ) () 0 c :=
  Pipeline.cellsWaits_intro cfgs (dats m ρ) () 0 c fun w s t => by
    have hn : lv ((c : Thread nD τ), SemLoc.dma ((cfg0.win w).sem s)) () = 0 := by
      show (match role (SemLoc.dma ((cfg0.win w).sem s)) with | some k => lvOf k | none => 0) = 0
      rw [role_none fun k => window_role w s k]
    rcases t with ⟨_ | _, ht⟩
    · exact mayWait_at c _ 0 hn owed0 owed0_above
    · exact mayWait_at c _ 0 hn [] fun p hp => absurd hp List.not_mem_nil

/-! ## The run -/

def finalA (c : Dev nD) (w : Fin cfg0.W) : Buf (Elt F) ((cfg0.win w).arr.view.loc (c : Thread nD τ)) := (dats m ρ 0 c).arrAt w cfg0.N

theorem finalA_pi (c : Dev nD) : finalA m ρ c (0 : Fin 2) = m ((c : Thread nD τ).loc main_arg1) :=
  (dats (F := F) m ρ 0 c).arrAt_in (0 : Fin 2) rfl _

/-- The argument and the semaphores, read in a final state. -/
theorem read_left (c : Dev nD) (s' : Phys nD τ sig (Elt F)) :
    iprop(left m c ∗ emp ∗ SI s')
      ⊢ |={Set.univ}=> iprop(⌜(∀ sm : SemLoc sig, sm.isScoped .tc = false → s'.mem.sem ((c.tc : Thread nD τ), sm) = 0)
          ∧ s'.mem.mem ((c : Thread nD τ).loc main_arg0) = xOf m c⌝ ∗ SI s') := by
  unfold left
  iintro ⟨⟨Hu, Hx⟩, -, HSI⟩
  ihave %hx := (SI_pointsTo_agree (st := s') (ℓ := (c : Thread nD τ).loc main_arg0) (I := Finset.univ) (q := fullShare) (f := xOf m c)) $$ [HSI Hx]
  · isplitl [HSI] <;> iassumption
  imod (Pipeline.unscopedSems0_read (X := unscopedSems0 c) (c := c) fupd_intro s') $$ [Hu HSI] with ⟨%h, HSI⟩
  · isplitl [Hu] <;> iassumption
  imodintro
  isplitr
  · ipureintro; exact ⟨h, funext fun i => hx i (Finset.mem_univ i)⟩
  iexact HSI

/-- The final memory: the windows' arrays as computed, the argument kept. -/
def QC : PUnit × MemSt nD τ sig (Elt F) → Prop := fun r =>
  ∀ c : Dev nD, (∀ w : Fin cfg0.W, r.2.mem ((cfg0.win w).arr.view.loc (c : Thread nD τ)) = finalA m ρ c w) ∧ r.2.mem ((c : Thread nD τ).loc main_arg0) = xOf m c

set_option maxRecDepth 100000 in
theorem run_main (hsw : Swaps m) : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ hsw) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits_ok m ρ)
    (G := G (xOf m)) (G' := G' (xOf m)) (u₀ := u₀)
    (hu₀ := by
      unfold u₀
      iintro Hu
      ihave H := (ownU_pair _ _) $$ Hu
      icases H with ⟨HP, HX⟩
      imod (fund (xOf m)) $$ HX with HG
      imodintro
      isplitl [HP] <;> iassumption)
    (hglob := glob (xOf m))
    (hA := fun _ _ => rfl) (hpf := fun _ k => k.elim0)
    (X := start m) (Y := left m) (Z := fun _ => iprop(emp))
    (hX := start_intro m ρ) (hin := phi0_intro m ρ) (hout := phi1_exit m ρ)
    (QY := fun c s => (∀ sm : SemLoc sig, sm.isScoped .tc = false → s.sem ((c.tc : Thread nD τ), sm) = 0) ∧ s.mem ((c : Thread nD τ).loc main_arg0) = xOf m c)
    (hY := read_left m)
    (hQ := fun _ h hs => ⟨fun c => ⟨(h c).1, (h c).2.2.2⟩, sem_eq_zero hs fun c => (h c).2.2.1⟩)

end Cert.Exch
end
-- ==== Proof.Outcome.lean ====
/-
# What a run ends with

Under the precondition: the result on each device, the arguments unchanged, every semaphore at zero.
-/
module

public import proofs.«01_k».proof.Proof.Launch
public import proofs.«01_k».proof.Pre_swap_Kernel

@[expose] public section

noncomputable section

namespace Cert.Exch

open Cert.KernelIdeal Cert.KernelIdeal.Gen
open Idealize.ShloMosaic Idealize.ShloMosaic.TcCoe
open Idealize.ShloMosaic.Pipeline (Dat Cfg Window BodyObligation cellOf)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

theorem finalA_read (c : Dev nD) : (win0_1.blk (0 : Fin 1)).view.read (Elt F) (finalA m ρ c (1 : Fin 2)) = outV (xOf m) c := by
  unfold finalA
  rw [show cfg0.N = ((0 : Fin 1) : Fin cfg0.N).val + 1 from rfl, (dats m ρ 0 c).arrAt_succ (1 : Fin 2) (0 : Fin 1)]
  rw [show (cfg0.win (1 : Fin 2)).flush (0 : Fin 1) = true from by decide, if_pos rfl]
  exact View.read_write_univ _ _

/-- The result array's one block is the whole array. -/
theorem finalA_out (c : Dev nD) : finalA m ρ c (1 : Fin 2) = outV (xOf m) c := by
  have hz : (fun a => (win0_1.index (0 : Fin 1)) a * main_v1.ty.shape.size a) = fun _ => 0 := funext fun a => by fin_cases a <;> decide
  have h := finalA_read m ρ c
  rw [Memref.read_access_unit_zero (Elt F) main_v1 hz (fun a => by fin_cases a <;> decide)] at h
  exact h

/-- What a run ends with. -/
def Ends (r : PUnit × MemSt nD τ sig (Elt F)) : Prop :=
  (∀ c : Dev nD, r.2.mem ((c : Thread nD τ).loc main_v1) = outV (xOf m) c
    ∧ r.2.mem ((c : Thread nD τ).loc main_arg0) = m ((c : Thread nD τ).loc main_arg0)
    ∧ r.2.mem ((c : Thread nD τ).loc main_arg1) = m ((c : Thread nD τ).loc main_arg1)) ∧ r.2.sem = fun _ => 0

theorem run_ends (hsw : Swaps m) : θ_run defs (onTc (τ := τ) (main (F := F))) ⟨m, fun _ => 0, ρ⟩ (Ends m) :=
  (θ_run defs _ _).mono (fun _ h => ⟨fun c => ⟨((h.1 c).1 (1 : Fin 2)).trans (finalA_out m ρ c), (h.1 c).2, ((h.1 c).1 (0 : Fin 2)).trans (finalA_pi m ρ c)⟩, h.2⟩)
    (run_main m ρ hsw)

/-! ## The precondition -/

/-- The precondition compares each entry of the table with that of the swap. -/
theorem table_at (j : S2.Idx) : Cert.Pre_swap_Kernel.lit0 (Cert.Pre_swap_Kernel.S2.rowMajor j) = BitVec.ofNat 32 (1 - (j 0).val) := by
  rw [show Cert.Pre_swap_Kernel.S2.rowMajor j = (j 0 : Fin 2) from Fin.ext (Shape.rowMajor_val_one j)]
  generalize (j 0 : Fin 2) = k
  fin_cases k <;> rfl

theorem swaps_of_pre [Cert.Pre_swap_Kernel.Facts]
    (h : ∀ c : Dev nD, Cert.Pre_swap_Kernel.fn (F := F) (m ((c : Thread nD τ).loc main_arg0)) (m ((c : Thread nD τ).loc main_arg1)) = fun _ => 1#1) : Swaps m := fun c j => by
  have e : IntOp.cmpi .eq (piOf m c j) (Cert.Pre_swap_Kernel.lit0 (Cert.Pre_swap_Kernel.S2.rowMajor j)) = 1#1 := congrFun (h c) j
  have hb : ∀ b : Bool, BitVec.ofBool b = 1#1 → b = true := by decide
  exact (eq_of_beq (hb _ e)).trans (table_at j)

/-- The arguments unchanged and every semaphore at zero, from the precondition alone. -/
theorem run_quiet [Cert.Pre_swap_Kernel.Facts]
    (h : ∀ c : Dev nD, Cert.Pre_swap_Kernel.fn (F := F) (m ((c.tc : Thread nD τ).loc main_arg0)) (m ((c.tc : Thread nD τ).loc main_arg1)) = fun _ => 1#1) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun _ h => ⟨fun c => (h.1 c).2, h.2⟩) (run_ends m ρ (swaps_of_pre m h))

end Cert.Exch
end
-- ==== Proof.Whole.lean ====
/-
# What the reference computes

At a table naming the swap, sorting the table gives the table back, and the gather takes row `1 - r` for row `r`.
-/
module

public import proofs.«01_k».proof.Proof.Gen.ReferenceIdeal.Run
public import proofs.«01_k».proof.Defs
public import Idealize.ShloMosaic.Lib.Quiescent
public import Idealize.ShloMosaic.Lib.SortFacts

@[expose] public section

noncomputable section

namespace Cert.Whole

open Cert.ReferenceIdeal Cert.ReferenceIdeal.Gen Idealize.ShloMosaic Idealize.ShloMosaic.TcCoe Idealize.SL.Sem

variable {α : Type}

/-- The swap of two positions, as a table of words. -/
def swap (j : S2.Idx) : BitVec 32 := BitVec.ofNat 32 (1 - (j 0).val)

/-- The positions a stable sort of the swap's words takes its elements from. -/
theorem from_swap (k : Fin 2) :
    sortedFrom (fun p q : Fin 2 => IntOp.cmpi .slt (BitVec.ofNat 32 (1 - p.val)) (BitVec.ofNat 32 (1 - q.val)) == 1#1) k = ⟨1 - k.val, by omega⟩ := by
  revert k; decide

/-- The sort of the swap carries the positions to the swap. -/
theorem argsort_swap : (Host.sort2 S2 0 comparator_i32_i32_d0 swap (iotaInDim S2 32 0)).2 = swap := by
  funext j
  have e : ∀ p : Fin 2, swap (j.along (0 : Fin 1) p) = BitVec.ofNat 32 (1 - p.val) := fun p => by
    rw [Shape.Idx.along_rank1]; rfl
  have hf : (fun p q : Fin 2 => comparator_i32_i32_d0 (swap (j.along (0 : Fin 1) p), iotaInDim S2 32 0 (j.along (0 : Fin 1) p))
      (swap (j.along (0 : Fin 1) q), iotaInDim S2 32 0 (j.along (0 : Fin 1) q)) == 1#1)
      = fun p q : Fin 2 => IntOp.cmpi .slt (BitVec.ofNat 32 (1 - p.val)) (BitVec.ofNat 32 (1 - q.val)) == 1#1 :=
    funext fun p => funext fun q => by rw [← e p, ← e q]; rfl
  exact (congrArg (fun f => iotaInDim S2 32 0 (j.along (0 : Fin 1) (sortedFrom f (j 0)))) hf).trans
    ((congrArg (fun p => iotaInDim S2 32 0 (j.along (0 : Fin 1) p)) (from_swap (j 0))).trans (by rw [Shape.Idx.along_rank1]; rfl))

/-- No word of the swap is negative: the wrap of negative indices leaves the swap. -/
theorem wrap_swap : select (cmpi .slt swap (broadcastInDim S2 ![] bcast_S_S2 (constantI S_ 32 0#32)))
    (addi swap (broadcastInDim S2 ![] bcast_S_S2 (constantI S_ 32 2#32))) swap = swap := by
  funext j
  have h : ∀ k : Fin 2, IntOp.cmpi .slt (BitVec.ofNat 32 (1 - k.val)) 0#32 = 0#1 := by decide
  show (if IntOp.cmpi .slt (BitVec.ofNat 32 (1 - (j 0).val)) 0#32 = 1#1 then _ else swap j) = swap j
  rw [h (j 0)]
  rfl

/-- The place in the operand that row `1 - r` of the result's place is. -/
def turned (j : S2x1024x1024.Idx) : S2x1024x1024.Idx :=
  fun | ⟨0, _⟩ => ⟨1 - (j 0).val, by show _ < 2; omega⟩ | ⟨1, _⟩ => j 1 | ⟨2, _⟩ => j 2

abbrev rows := gather_S2x1024x1024_S2x1_S2x1024x1024_12_0_n_n_0_1_110241024

theorem start_swap (j : S2x1024x1024.Idx) (a : Fin 3) :
    rows.start j (broadcastInDim S2x1 ![0] bcast_S2_S2x1_0 swap) a = if a = 0 then 1 - (j 0).val else 0 := by
  have h : ∀ k : Fin 2, min (BitVec.ofNat 32 (1 - k.val)).toInt.toNat (2 - 1) = 1 - k.val := by decide
  match a with
  | ⟨0, _⟩ => exact h (j 0)
  | ⟨1, _⟩ => rfl
  | ⟨2, _⟩ => rfl

/-- The gather at the swap. -/
theorem gather_swap (x : S2x1024x1024.Idx → α) :
    Host.gather rows x (broadcastInDim S2x1 ![0] bcast_S2_S2x1_0 swap) = fun j => x (turned j) := by
  funext j
  unfold Host.gather
  congr 1
  funext a
  refine Fin.ext ?_
  show rows.start j _ a + rows.batchCoord j a + rows.offCoord j a = _
  rw [start_swap, GatherDims.batchCoord_eq_zero _ _ _ (List.not_mem_nil)]
  match a with
  | ⟨0, _⟩ => rfl
  | ⟨1, _⟩ => exact Nat.zero_add _
  | ⟨2, _⟩ => exact Nat.zero_add _

/-- The reference's run, at a table naming the swap. -/
theorem run_swap (m : (ℓ : Loc nD τ sig) → Buf (Elt Ideal) ℓ) (ρ : Dev nD → PrngReg)
    (hsw : m (((0 : Dev nD).tc : Thread nD τ).loc main_arg1) = swap) :
    θ_run defs (onTc (τ := τ) (main (F := Ideal))) ⟨m, fun _ => 0, ρ⟩ fun r =>
      r.2.mem (((0 : Dev nD).tc : Thread nD τ).loc main_v9) = (fun j => m (((0 : Dev nD).tc : Thread nD τ).loc main_arg0) (turned j))
      ∧ r.2.mem (((0 : Dev nD).tc : Thread nD τ).loc main_arg0) = m (((0 : Dev nD).tc : Thread nD τ).loc main_arg0)
      ∧ r.2.mem (((0 : Dev nD).tc : Thread nD τ).loc main_arg1) = m (((0 : Dev nD).tc : Thread nD τ).loc main_arg1) :=
  (θ_run defs _ _).mono (fun _ h => ⟨(h 0).1.trans (by
      rw [hsw, argsort_swap, wrap_swap, gather_swap]; rfl), (h 0).2⟩) (Value.run (F := Ideal) m ρ)

/-- Every run of the reference ends, its arguments unchanged, every semaphore at zero. -/
theorem run_quiet (m : (ℓ : Loc nD τ sig) → Buf (Elt Ideal) ℓ) (ρ : Dev nD → PrngReg) :
    θ_run defs (onTc (τ := τ) (main (F := Ideal))) ⟨m, fun _ => 0, ρ⟩ fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)) ∧ r.2.sem = fun _ => 0 :=
  (θ_run defs _ _).mono (fun r h => ⟨fun c => (h c).2, sem_eq_zero_of_no_sems (by decide) r.2⟩) (Value.run (F := Ideal) m ρ)

end Cert.Whole
end
-- ==== Proof.Agree.lean ====
/-
# The two results are one

Device `c` holds row `1 - c / 4` of the whole array: block `c` of what the reference computes.
-/
module

public import proofs.«01_k».proof.Proof.Outcome
public import proofs.«01_k».proof.Proof.Whole
public import proofs.«01_k».proof.Proof.Gen.Pre_swap_Kernel

@[expose] public section

noncomputable section

namespace Cert.Agree

open Cert.Exch Cert.Whole Idealize.ShloMosaic Idealize.ShloMosaic.TcCoe Idealize.SL.Sem

/-- The result's blocks on the mesh: one row to each half of the devices. -/
abbrev part {α : Type} (v : Cert.ReferenceIdeal.S2x1024x1024.Idx → α) (c : Dev Cert.KernelIdeal.nD) :=
  Layout.blockN (⟨3, ![1, 1024, 1024]⟩ : Shape) ⟨3, ![2, 1024, 1024]⟩ (Layout.meshBlock [2, 2, 2] ![[0], [], []] c) v

theorem row_val (d : Dev Cert.KernelIdeal.nD) : ((Layout.meshBlock [2, 2, 2] ![[0], [], []] d (by decide) : (b : Fin 3) → Fin _) 0).val = d.val / 4 := by
  revert d; decide

theorem other_row (c : Dev Cert.KernelIdeal.nD) : (peer 0 c).val / 4 = 1 - c.val / 4 := by revert c; decide

/-- Every piece of the result is of the other half's row. -/
theorem outV_part {α : Type} (v : Cert.ReferenceIdeal.S2x1024x1024.Idx → α) (c : Dev Cert.KernelIdeal.nD)
    (i : (⟨3, ![1, 1024, 1024]⟩ : Shape).Idx) (s) : part v (orig c s) i = part (fun j => v (turned j)) c i := by
  show v _ = v _
  congr 1
  funext a
  refine Fin.ext ?_
  have h0 : (i 0).val = 0 := Nat.lt_one_iff.1 (i 0).isLt
  match a with
  | ⟨0, _⟩ =>
    show _ * 1 + (i 0).val = 1 - (_ * 1 + (i 0).val)
    rw [h0, Nat.mul_one, Nat.mul_one, Nat.add_zero, Nat.add_zero]
    exact (row_val _).trans ((orig_row c s).trans ((other_row c).trans (congrArg (1 - ·) (row_val c).symm)))
  | ⟨1, _⟩ => rfl
  | ⟨2, _⟩ => rfl

/-- What the kernel leaves, of blocks of one array, is blocks of what the reference computes of it. -/
theorem outV_eq {F : FTy → Type} [FloatOps F] (v : Cert.ReferenceIdeal.S2x1024x1024.Idx → Elt F .bf16) (c : Dev Cert.KernelIdeal.nD) :
    outV (F := F) (fun d => part v d) c = part (fun j => v (turned j)) c := funext fun i => outV_part v c i _

open Cert.KernelIdeal Cert.KernelIdeal.Gen Cert.ReferenceIdeal.Gen Cert.Pre_swap_Kernel.Gen

theorem frame_ideal : Cert.quiescent_KernelIdeal := fun m ρ hpre => Cert.Exch.run_quiet (F := Ideal) m ρ hpre

theorem frame_ref : Cert.quiescent_ReferenceIdeal := fun m ρ _ => Cert.Whole.run_quiet m ρ

/-- Both runs end, each with the swapped rows. -/
theorem algebraic : Cert.algebraic_KernelIdeal_ReferenceIdeal := fun m ρ m' ρ' hpre hagree => by
  have hsw := swaps_of_pre m hpre
  refine ⟨_, (θ_run Cert.KernelIdeal.defs _ _).mono (fun _ h c => ⟨((h.1 c).1).trans ?_, (h.1 c).2⟩) (run_ends (F := Ideal) m ρ hsw),
    run_swap m' ρ' ((hagree 0).2.symm.trans (funext (hsw 0)))⟩
  exact (congrArg (fun x => outV (F := Ideal) x c) (funext fun d => (hagree d).1)).trans (outV_eq _ c)

end Cert.Agree
end
-- ==== Proof.Text.lean ====
/-
# One text

No operation of the kernel has a rule, so its table of bodies and its idealized program's are one.
-/
module

public import proofs.«01_k».proof.Proof.Gen.Kernel
public import proofs.«01_k».proof.Proof.Gen.KernelIdeal

@[expose] public section

noncomputable section

namespace Cert.Text

open Idealize.ShloMosaic Idealize.SL.Sem Cert.Kernel.Gen Cert.KernelIdeal.Gen

variable {F : FTy → Type} [FloatOps F]

set_option maxHeartbeats 2000000 in
theorem row_eq : ∀ (l : Cert.KernelIdeal.Λ₀.Label) (a : Cert.KernelIdeal.Λ₀.Args l),
    Cert.Kernel.defs₀ (F := F) .tc l a = Cert.KernelIdeal.defs₀ (F := F) .tc l a
  | 0, (t, s) => rfl
  | ⟨n + 1, h⟩, _ => absurd h (Nat.not_lt.2 (Nat.le_add_left _ _))

theorem table_eq : Cert.Kernel.defs₀ (F := F) = Cert.KernelIdeal.defs₀ (F := F) :=
  congrArg (Defs.onTc (nD := Cert.KernelIdeal.nD) (τ := Cert.KernelIdeal.τ)) (funext fun l => funext fun a => row_eq l a)

theorem defs_eq : Cert.Kernel.defs (F := F) = Cert.KernelIdeal.defs (F := F) :=
  congrArg (Pipeline.defs (Cert.KernelIdeal.pcfgs (F := F))) table_eq

end Cert.Text
end
-- ==== Proof.lean ====
module

public import proofs.«01_k».proof.Defs
public import proofs.«01_k».proof.Proof.Gen.ReferenceIdeal.Run
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_swap_Kernel
public import proofs.«01_k».proof.Proof.Gen.Pre_swap_ReferenceIdeal
public import proofs.«01_k».proof.Proof.Agree
public import proofs.«01_k».proof.Proof.Text
public import Idealize.ShloMosaic.Adequacy
public import Idealize.ShloMosaic.Init

@[expose] public section

noncomputable section

namespace Cert.Proof

open Idealize.ShloMosaic Idealize.SL.Sem Cert.Kernel

/-- The kernel's own text is its idealized program's, so one run at every float serves both. -/
theorem frame_kernel : Cert.quiescent_Kernel (hKernel := Cert.Kernel.Gen.facts) (hPre_swap_Kernel := Cert.Pre_swap_Kernel.Gen.facts) := fun m ρ hpre => by
  have h := Cert.Exch.run_quiet (F := Bits) m ρ hpre
  rw [← Cert.Text.defs_eq] at h
  exact h

theorem claim : Cert.Claim := ⟨Cert.Kernel.Gen.facts, Cert.KernelIdeal.Gen.facts, Cert.ReferenceIdeal.Gen.facts, Cert.Pre_swap_Kernel.Gen.facts, Cert.Pre_swap_ReferenceIdeal.Gen.facts,
  frame_kernel, Cert.Agree.frame_ideal, Cert.Agree.frame_ref, fun m ρ _ => Cert.Agree.frame_ref m ρ trivial, trivial, Cert.Agree.algebraic⟩

end Cert.Proof

end
